-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_nonnegative [hPre_nonnegative : Cert.Pre_nonnegative.Facts] (m : (ℓ : Loc Cert.KernelIdeal.nD Cert.KernelIdeal.τ Cert.KernelIdeal.sig) → Buf (Elt Ideal) ℓ) : Prop :=
  ∀ c : Dev Cert.KernelIdeal.nD,
    (Cert.Pre_nonnegative.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_nonnegative [hPre_nonnegative : Cert.Pre_nonnegative.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_nonnegative.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_nonnegative [hKernelIdeal : Cert.KernelIdeal.Facts] [hPre_nonnegative : Cert.Pre_nonnegative.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_nonnegative m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_nonnegative [hReferenceIdeal : Cert.ReferenceIdeal.Facts] [hPre_nonnegative : Cert.Pre_nonnegative.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_nonnegative m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_nonnegative [hKernelIdeal : Cert.KernelIdeal.Facts] [hReferenceIdeal : Cert.ReferenceIdeal.Facts] [hPre_nonnegative : Cert.Pre_nonnegative.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_nonnegative m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_nonnegative : Cert.Pre_nonnegative.Facts),
    quiescent_Kernel (hKernel := hKernel)
    ∧ quiescent_KernelIdeal (hKernelIdeal := hKernelIdeal)
    ∧ quiescent_KernelIdeal_pre_nonnegative (hKernelIdeal := hKernelIdeal) (hPre_nonnegative := hPre_nonnegative)
    ∧ quiescent_ReferenceIdeal (hReferenceIdeal := hReferenceIdeal)
    ∧ quiescent_ReferenceIdeal_pre_nonnegative (hReferenceIdeal := hReferenceIdeal) (hPre_nonnegative := hPre_nonnegative)
    ∧ preserves_Kernel_KernelIdeal
    ∧ algebraic_KernelIdeal_ReferenceIdeal_pre_nonnegative (hKernelIdeal := hKernelIdeal) (hReferenceIdeal := hReferenceIdeal) (hPre_nonnegative := hPre_nonnegative)
-- ==== Pre_nonnegative.lean ====
abbrev S1000000 : Shape := ⟨1, ![1000000]⟩
abbrev S1 : Shape := ⟨1, ![1]⟩
abbrev S65536 : Shape := ⟨1, ![65536]⟩
abbrev S_ : Shape := ⟨0, ![]⟩

class Facts : Prop where
  bcast_S_S65536 : S_.BroadcastsInDim S65536 (![] : Fin 0 → Fin S65536.rank)
  reducesTo_S65536_S_d0 : S65536.ReducesTo [0] S_
  h_S_ : 0 < S_.numel

variable [Facts]

def fn {F : FTy → Type} [FloatOps F] (main_arg0 : FVec F S1000000 .f32) (main_arg1 : FVec F S1 .f32) (main_arg2 : IVec S65536 32) : IVec S_ 1 :=
  let main_c : IVec S_ 32 := constantI S_ 32 0#32
  let main_v0 : IVec S65536 32 := broadcastInDim S65536 ![] bcast_S_S65536 main_c
  let main_v1 : IVec S65536 1 := cmpi .sge main_arg2 main_v0
  let main_c_0 : IVec S_ 1 := constantI S_ 1 1#1
  let main_v2 : IVec S_ 1 := (fun x v => Host.reduce IntOp.andi x v reducesTo_S65536_S_d0 h_S_) main_v1 main_c_0
  main_v2
-- ==== Kernel.lean ====
abbrev S1000000 : Shape := ⟨1, ![1000000]⟩
abbrev S1 : Shape := ⟨1, ![1]⟩
abbrev S65536 : Shape := ⟨1, ![65536]⟩
abbrev S62720 : Shape := ⟨1, ![62720]⟩
abbrev S_ : Shape := ⟨0, ![]⟩
abbrev S8192 : Shape := ⟨1, ![8192]⟩
abbrev S16 : Shape := ⟨1, ![16]⟩
abbrev S15680 : Shape := ⟨1, ![15680]⟩
abbrev S14800 : Shape := ⟨1, ![14800]⟩

abbrev nBuf : Table → Nat
  | .hbm => 4
  | .local .scVector .vmem => 2
  | _ => 0

abbrev bufTy : (tb : Table) → Fin (nBuf tb) → BufTy
  | .hbm, ⟨0, _⟩ => ⟨S1000000, .f32⟩
  | .hbm, ⟨1, _⟩ => ⟨S1, .f32⟩
  | .hbm, ⟨2, _⟩ => ⟨S65536, .i32⟩
  | .hbm, ⟨3, _⟩ => ⟨S1000000, .f32⟩
  | .local .scVector .vmem, ⟨0, _⟩ => ⟨S65536, .i32⟩
  | .local .scVector .vmem, ⟨1, _⟩ => ⟨S62720, .f32⟩
  | _, _ => ⟨S1000000, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 16 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | ⟨9, _⟩ => false
  | ⟨10, _⟩ => false
  | ⟨11, _⟩ => false
  | ⟨12, _⟩ => false
  | ⟨13, _⟩ => false
  | ⟨14, _⟩ => false
  | ⟨15, _⟩ => false
  | _ => false

abbrev sig : RefSig :=
  ofTables nBuf rfl bufTy 4 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_arg2_scv : Ref sig .scVector := ⟨.hbm, 2, rfl⟩
abbrev main_v0_scv : Ref sig .scVector := ⟨.hbm, 3, rfl⟩
abbrev cc0_scratch0 : Ref sig .scVector := ⟨.vmem, 0, rfl⟩
abbrev cc0_scratch1 : Ref sig .scVector := ⟨.vmem, 1, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![1, 16], ![false, false]⟩

def k0_off1 (i : grid0.Coords) (c0_i32_4 : BitVec 32) : Fin 1 → Nat :=
  let arg1 : BitVec 32 := BitVec.ofNat 32 (i 1).val
  let c0_i32 : BitVec 32 := 0#32
  let v2 : BitVec 1 := Scalar.cmpi .sgt arg1 c0_i32
  let v3 : BitVec 32 := Scalar.extui v2
  let c0_i32_0 : BitVec 32 := 0#32
  let v4 : BitVec 1 := Scalar.cmpi .slt arg1 c0_i32_0
  let v5 : BitVec 32 := Scalar.extui v4
  let v6 : BitVec 32 := Scalar.subi v3 v5
  let c2_i32 : BitVec 32 := 2#32
  let c0_i32_1 : BitVec 32 := 0#32
  let v7 : BitVec 1 := Scalar.cmpi .sgt c2_i32 c0_i32_1
  let v8 : BitVec 32 := Scalar.extui v7
  let c0_i32_2 : BitVec 32 := 0#32
  let v9 : BitVec 1 := Scalar.cmpi .slt c2_i32 c0_i32_2
  let v10 : BitVec 32 := Scalar.extui v9
  let v11 : BitVec 32 := Scalar.subi v8 v10
  let v12 : BitVec 1 := Scalar.cmpi .ne v6 v11
  let v13 : BitVec 32 := Scalar.remsi arg1 c2_i32
  let c0_i32_3 : BitVec 32 := 0#32
  let v14 : BitVec 1 := Scalar.cmpi .ne v13 c0_i32_3
  let v15 : BitVec 1 := Scalar.andi v12 v14
  let v1 : BitVec 32 := Scalar.divsi arg1 c2_i32
  let c1_i32 : BitVec 32 := 1#32
  let v16 : BitVec 32 := Scalar.subi v1 c1_i32
  let v17 : BitVec 32 := Scalar.select v15 v16 v1
  let v18 : BitVec 32 := Scalar.addi v17 c0_i32_4
  let c8_i32 : BitVec 32 := 8#32
  let v19 : BitVec 32 := Scalar.remsi v18 c8_i32
  let c8192_i32 : BitVec 32 := 8192#32
  let v20 : BitVec 32 := Scalar.muli v19 c8192_i32
  ![v20.toNat]
@[reducible] def k0_t1_loop : Scf.Loop 32 :=
  let c0_i32_70 : BitVec 32 := 0#32
  let c3920_i32 : BitVec 32 := 3920#32
  let v194 : BitVec 32 := Scalar.addi c0_i32_70 c3920_i32
  let c1_i32_71 : BitVec 32 := 1#32
  ⟨c0_i32_70, v194, c1_i32_71⟩
def k0_off2 (k0_t1 : Fin k0_t1_loop.trips) : Fin 1 → Nat :=
  let c0_i32_109 : BitVec 32 := 0#32
  let c0_i32_70 : BitVec 32 := 0#32
  let c1_i32_71 : BitVec 32 := 1#32
  let arg22 : BitVec 32 := Scf.iv c0_i32_70 c1_i32_71 k0_t1
  let c1_i32_108 : BitVec 32 := 1#32
  let v242 : BitVec 32 := Scalar.muli arg22 c1_i32_108
  let v243 : BitVec 32 := Scalar.addi c0_i32_109 v242
  let c16_i32 : BitVec 32 := 16#32
  let v244 : BitVec 32 := Scalar.muli v243 c16_i32
  let v245 : Index := Scalar.indexCast v244
  ![v245.toNat]
@[reducible] def k0_t2_loop : Scf.Loop 32 :=
  let c0_i32_74 : BitVec 32 := 0#32
  let c512_i32 : BitVec 32 := 512#32
  let v200 : BitVec 32 := Scalar.addi c0_i32_74 c512_i32
  let c1_i32_75 : BitVec 32 := 1#32
  ⟨c0_i32_74, v200, c1_i32_75⟩
def k0_off3 (i : grid0.Coords) (k0_t2 : Fin k0_t2_loop.trips) : Fin 1 → Nat :=
  let arg1 : BitVec 32 := BitVec.ofNat 32 (i 1).val
  let c0_i32 : BitVec 32 := 0#32
  let v2 : BitVec 1 := Scalar.cmpi .sgt arg1 c0_i32
  let v3 : BitVec 32 := Scalar.extui v2
  let c0_i32_0 : BitVec 32 := 0#32
  let v4 : BitVec 1 := Scalar.cmpi .slt arg1 c0_i32_0
  let v5 : BitVec 32 := Scalar.extui v4
  let v6 : BitVec 32 := Scalar.subi v3 v5
  let c2_i32 : BitVec 32 := 2#32
  let c0_i32_1 : BitVec 32 := 0#32
  let v7 : BitVec 1 := Scalar.cmpi .sgt c2_i32 c0_i32_1
  let v8 : BitVec 32 := Scalar.extui v7
  let c0_i32_2 : BitVec 32 := 0#32
  let v9 : BitVec 1 := Scalar.cmpi .slt c2_i32 c0_i32_2
  let v10 : BitVec 32 := Scalar.extui v9
  let v11 : BitVec 32 := Scalar.subi v8 v10
  let v12 : BitVec 1 := Scalar.cmpi .ne v6 v11
  let v13 : BitVec 32 := Scalar.remsi arg1 c2_i32
  let c0_i32_3 : BitVec 32 := 0#32
  let v14 : BitVec 1 := Scalar.cmpi .ne v13 c0_i32_3
  let v15 : BitVec 1 := Scalar.andi v12 v14
  let v1 : BitVec 32 := Scalar.divsi arg1 c2_i32
  let c1_i32 : BitVec 32 := 1#32
  let v16 : BitVec 32 := Scalar.subi v1 c1_i32
  let v17 : BitVec 32 := Scalar.select v15 v16 v1
  let c0_i32_4 : BitVec 32 := 0#32
  let v18 : BitVec 32 := Scalar.addi v17 c0_i32_4
  let c8_i32 : BitVec 32 := 8#32
  let v19 : BitVec 32 := Scalar.remsi v18 c8_i32
  let c8192_i32 : BitVec 32 := 8192#32
  let v20 : BitVec 32 := Scalar.muli v19 c8192_i32
  let c0_i32_109 : BitVec 32 := 0#32
  let c0_i32_74 : BitVec 32 := 0#32
  let c1_i32_75 : BitVec 32 := 1#32
  let arg22 : BitVec 32 := Scf.iv c0_i32_74 c1_i32_75 k0_t2
  let c1_i32_108 : BitVec 32 := 1#32
  let v242 : BitVec 32 := Scalar.muli arg22 c1_i32_108
  let v243 : BitVec 32 := Scalar.addi c0_i32_109 v242
  let c16_i32 : BitVec 32 := 16#32
  let v244 : BitVec 32 := Scalar.muli v243 c16_i32
  let v245 : BitVec 32 := Scalar.addi v20 v244
  let v246 : Index := Scalar.indexCast v245
  ![v246.toNat]

def k0_chk1 (v253 : IVec S16 32) : Prop :=
  (∀ a x, ((![v253] : Fin 1 → IVec S16 32) a x).toNat < S62720.size a)
theorem k0_idx1_inb : ∀ (v253 : IVec S16 32) (k0_hw1 : k0_chk1 v253), ∀ a x, ((![v253] : Fin 1 → IVec S16 32) a x).toNat < S62720.size a := fun v253 k0_hw1 => k0_hw1
@[reducible] def k0_t3_loop : Scf.Loop 32 :=
  let c0_i32_77 : BitVec 32 := 0#32
  let c512_i32_78 : BitVec 32 := 512#32
  let v205 : BitVec 32 := Scalar.addi c0_i32_77 c512_i32_78
  let c1_i32_79 : BitVec 32 := 1#32
  ⟨c0_i32_77, v205, c1_i32_79⟩
def k0_off4 (i : grid0.Coords) (k0_t3 : Fin k0_t3_loop.trips) : Fin 1 → Nat :=
  let arg1 : BitVec 32 := BitVec.ofNat 32 (i 1).val
  let c0_i32_6 : BitVec 32 := 0#32
  let v22 : BitVec 1 := Scalar.cmpi .sgt arg1 c0_i32_6
  let v23 : BitVec 32 := Scalar.extui v22
  let c0_i32_7 : BitVec 32 := 0#32
  let v24 : BitVec 1 := Scalar.cmpi .slt arg1 c0_i32_7
  let v25 : BitVec 32 := Scalar.extui v24
  let v26 : BitVec 32 := Scalar.subi v23 v25
  let c2_i32_5 : BitVec 32 := 2#32
  let c0_i32_8 : BitVec 32 := 0#32
  let v27 : BitVec 1 := Scalar.cmpi .sgt c2_i32_5 c0_i32_8
  let v28 : BitVec 32 := Scalar.extui v27
  let c0_i32_9 : BitVec 32 := 0#32
  let v29 : BitVec 1 := Scalar.cmpi .slt c2_i32_5 c0_i32_9
  let v30 : BitVec 32 := Scalar.extui v29
  let v31 : BitVec 32 := Scalar.subi v28 v30
  let v32 : BitVec 1 := Scalar.cmpi .ne v26 v31
  let v33 : BitVec 32 := Scalar.remsi arg1 c2_i32_5
  let c0_i32_10 : BitVec 32 := 0#32
  let v34 : BitVec 1 := Scalar.cmpi .ne v33 c0_i32_10
  let v35 : BitVec 1 := Scalar.andi v32 v34
  let v21 : BitVec 32 := Scalar.divsi arg1 c2_i32_5
  let c1_i32_11 : BitVec 32 := 1#32
  let v36 : BitVec 32 := Scalar.subi v21 c1_i32_11
  let v37 : BitVec 32 := Scalar.select v35 v36 v21
  let c1_i32_12 : BitVec 32 := 1#32
  let v38 : BitVec 32 := Scalar.addi v37 c1_i32_12
  let c8_i32_13 : BitVec 32 := 8#32
  let v39 : BitVec 32 := Scalar.remsi v38 c8_i32_13
  let c8192_i32_14 : BitVec 32 := 8192#32
  let v40 : BitVec 32 := Scalar.muli v39 c8192_i32_14
  let c0_i32_109 : BitVec 32 := 0#32
  let c0_i32_77 : BitVec 32 := 0#32
  let c1_i32_79 : BitVec 32 := 1#32
  let arg22 : BitVec 32 := Scf.iv c0_i32_77 c1_i32_79 k0_t3
  let c1_i32_108 : BitVec 32 := 1#32
  let v242 : BitVec 32 := Scalar.muli arg22 c1_i32_108
  let v243 : BitVec 32 := Scalar.addi c0_i32_109 v242
  let c16_i32 : BitVec 32 := 16#32
  let v244 : BitVec 32 := Scalar.muli v243 c16_i32
  let v245 : BitVec 32 := Scalar.addi v40 v244
  let v246 : Index := Scalar.indexCast v245
  ![v246.toNat]

def k0_chk2 (v253 : IVec S16 32) : Prop :=
  (∀ a x, ((![v253] : Fin 1 → IVec S16 32) a x).toNat < S62720.size a)
theorem k0_idx2_inb : ∀ (v253 : IVec S16 32) (k0_hw2 : k0_chk2 v253), ∀ a x, ((![v253] : Fin 1 → IVec S16 32) a x).toNat < S62720.size a := fun v253 k0_hw2 => k0_hw2
@[reducible] def k0_t4_loop : Scf.Loop 32 :=
  let c0_i32_81 : BitVec 32 := 0#32
  let c512_i32_82 : BitVec 32 := 512#32
  let v210 : BitVec 32 := Scalar.addi c0_i32_81 c512_i32_82
  let c1_i32_83 : BitVec 32 := 1#32
  ⟨c0_i32_81, v210, c1_i32_83⟩
def k0_off5 (i : grid0.Coords) (k0_t4 : Fin k0_t4_loop.trips) : Fin 1 → Nat :=
  let arg1 : BitVec 32 := BitVec.ofNat 32 (i 1).val
  let c0_i32_16 : BitVec 32 := 0#32
  let v42 : BitVec 1 := Scalar.cmpi .sgt arg1 c0_i32_16
  let v43 : BitVec 32 := Scalar.extui v42
  let c0_i32_17 : BitVec 32 := 0#32
  let v44 : BitVec 1 := Scalar.cmpi .slt arg1 c0_i32_17
  let v45 : BitVec 32 := Scalar.extui v44
  let v46 : BitVec 32 := Scalar.subi v43 v45
  let c2_i32_15 : BitVec 32 := 2#32
  let c0_i32_18 : BitVec 32 := 0#32
  let v47 : BitVec 1 := Scalar.cmpi .sgt c2_i32_15 c0_i32_18
  let v48 : BitVec 32 := Scalar.extui v47
  let c0_i32_19 : BitVec 32 := 0#32
  let v49 : BitVec 1 := Scalar.cmpi .slt c2_i32_15 c0_i32_19
  let v50 : BitVec 32 := Scalar.extui v49
  let v51 : BitVec 32 := Scalar.subi v48 v50
  let v52 : BitVec 1 := Scalar.cmpi .ne v46 v51
  let v53 : BitVec 32 := Scalar.remsi arg1 c2_i32_15
  let c0_i32_20 : BitVec 32 := 0#32
  let v54 : BitVec 1 := Scalar.cmpi .ne v53 c0_i32_20
  let v55 : BitVec 1 := Scalar.andi v52 v54
  let v41 : BitVec 32 := Scalar.divsi arg1 c2_i32_15
  let c1_i32_21 : BitVec 32 := 1#32
  let v56 : BitVec 32 := Scalar.subi v41 c1_i32_21
  let v57 : BitVec 32 := Scalar.select v55 v56 v41
  let c2_i32_22 : BitVec 32 := 2#32
  let v58 : BitVec 32 := Scalar.addi v57 c2_i32_22
  let c8_i32_23 : BitVec 32 := 8#32
  let v59 : BitVec 32 := Scalar.remsi v58 c8_i32_23
  let c8192_i32_24 : BitVec 32 := 8192#32
  let v60 : BitVec 32 := Scalar.muli v59 c8192_i32_24
  let c0_i32_109 : BitVec 32 := 0#32
  let c0_i32_81 : BitVec 32 := 0#32
  let c1_i32_83 : BitVec 32 := 1#32
  let arg22 : BitVec 32 := Scf.iv c0_i32_81 c1_i32_83 k0_t4
  let c1_i32_108 : BitVec 32 := 1#32
  let v242 : BitVec 32 := Scalar.muli arg22 c1_i32_108
  let v243 : BitVec 32 := Scalar.addi c0_i32_109 v242
  let c16_i32 : BitVec 32 := 16#32
  let v244 : BitVec 32 := Scalar.muli v243 c16_i32
  let v245 : BitVec 32 := Scalar.addi v60 v244
  let v246 : Index := Scalar.indexCast v245
  ![v246.toNat]

def k0_chk3 (v253 : IVec S16 32) : Prop :=
  (∀ a x, ((![v253] : Fin 1 → IVec S16 32) a x).toNat < S62720.size a)
theorem k0_idx3_inb : ∀ (v253 : IVec S16 32) (k0_hw3 : k0_chk3 v253), ∀ a x, ((![v253] : Fin 1 → IVec S16 32) a x).toNat < S62720.size a := fun v253 k0_hw3 => k0_hw3
@[reducible] def k0_t5_loop : Scf.Loop 32 :=
  let c0_i32_85 : BitVec 32 := 0#32
  let c512_i32_86 : BitVec 32 := 512#32
  let v215 : BitVec 32 := Scalar.addi c0_i32_85 c512_i32_86
  let c1_i32_87 : BitVec 32 := 1#32
  ⟨c0_i32_85, v215, c1_i32_87⟩
def k0_off6 (i : grid0.Coords) (k0_t5 : Fin k0_t5_loop.trips) : Fin 1 → Nat :=
  let arg1 : BitVec 32 := BitVec.ofNat 32 (i 1).val
  let c0_i32_26 : BitVec 32 := 0#32
  let v62 : BitVec 1 := Scalar.cmpi .sgt arg1 c0_i32_26
  let v63 : BitVec 32 := Scalar.extui v62
  let c0_i32_27 : BitVec 32 := 0#32
  let v64 : BitVec 1 := Scalar.cmpi .slt arg1 c0_i32_27
  let v65 : BitVec 32 := Scalar.extui v64
  let v66 : BitVec 32 := Scalar.subi v63 v65
  let c2_i32_25 : BitVec 32 := 2#32
  let c0_i32_28 : BitVec 32 := 0#32
  let v67 : BitVec 1 := Scalar.cmpi .sgt c2_i32_25 c0_i32_28
  let v68 : BitVec 32 := Scalar.extui v67
  let c0_i32_29 : BitVec 32 := 0#32
  let v69 : BitVec 1 := Scalar.cmpi .slt c2_i32_25 c0_i32_29
  let v70 : BitVec 32 := Scalar.extui v69
  let v71 : BitVec 32 := Scalar.subi v68 v70
  let v72 : BitVec 1 := Scalar.cmpi .ne v66 v71
  let v73 : BitVec 32 := Scalar.remsi arg1 c2_i32_25
  let c0_i32_30 : BitVec 32 := 0#32
  let v74 : BitVec 1 := Scalar.cmpi .ne v73 c0_i32_30
  let v75 : BitVec 1 := Scalar.andi v72 v74
  let v61 : BitVec 32 := Scalar.divsi arg1 c2_i32_25
  let c1_i32_31 : BitVec 32 := 1#32
  let v76 : BitVec 32 := Scalar.subi v61 c1_i32_31
  let v77 : BitVec 32 := Scalar.select v75 v76 v61
  let c3_i32 : BitVec 32 := 3#32
  let v78 : BitVec 32 := Scalar.addi v77 c3_i32
  let c8_i32_32 : BitVec 32 := 8#32
  let v79 : BitVec 32 := Scalar.remsi v78 c8_i32_32
  let c8192_i32_33 : BitVec 32 := 8192#32
  let v80 : BitVec 32 := Scalar.muli v79 c8192_i32_33
  let c0_i32_109 : BitVec 32 := 0#32
  let c0_i32_85 : BitVec 32 := 0#32
  let c1_i32_87 : BitVec 32 := 1#32
  let arg22 : BitVec 32 := Scf.iv c0_i32_85 c1_i32_87 k0_t5
  let c1_i32_108 : BitVec 32 := 1#32
  let v242 : BitVec 32 := Scalar.muli arg22 c1_i32_108
  let v243 : BitVec 32 := Scalar.addi c0_i32_109 v242
  let c16_i32 : BitVec 32 := 16#32
  let v244 : BitVec 32 := Scalar.muli v243 c16_i32
  let v245 : BitVec 32 := Scalar.addi v80 v244
  let v246 : Index := Scalar.indexCast v245
  ![v246.toNat]

def k0_chk4 (v253 : IVec S16 32) : Prop :=
  (∀ a x, ((![v253] : Fin 1 → IVec S16 32) a x).toNat < S62720.size a)
theorem k0_idx4_inb : ∀ (v253 : IVec S16 32) (k0_hw4 : k0_chk4 v253), ∀ a x, ((![v253] : Fin 1 → IVec S16 32) a x).toNat < S62720.size a := fun v253 k0_hw4 => k0_hw4
@[reducible] def k0_t6_loop : Scf.Loop 32 :=
  let c0_i32_89 : BitVec 32 := 0#32
  let c512_i32_90 : BitVec 32 := 512#32
  let v220 : BitVec 32 := Scalar.addi c0_i32_89 c512_i32_90
  let c1_i32_91 : BitVec 32 := 1#32
  ⟨c0_i32_89, v220, c1_i32_91⟩
def k0_off7 (i : grid0.Coords) (k0_t6 : Fin k0_t6_loop.trips) : Fin 1 → Nat :=
  let arg1 : BitVec 32 := BitVec.ofNat 32 (i 1).val
  let c0_i32_35 : BitVec 32 := 0#32
  let v82 : BitVec 1 := Scalar.cmpi .sgt arg1 c0_i32_35
  let v83 : BitVec 32 := Scalar.extui v82
  let c0_i32_36 : BitVec 32 := 0#32
  let v84 : BitVec 1 := Scalar.cmpi .slt arg1 c0_i32_36
  let v85 : BitVec 32 := Scalar.extui v84
  let v86 : BitVec 32 := Scalar.subi v83 v85
  let c2_i32_34 : BitVec 32 := 2#32
  let c0_i32_37 : BitVec 32 := 0#32
  let v87 : BitVec 1 := Scalar.cmpi .sgt c2_i32_34 c0_i32_37
  let v88 : BitVec 32 := Scalar.extui v87
  let c0_i32_38 : BitVec 32 := 0#32
  let v89 : BitVec 1 := Scalar.cmpi .slt c2_i32_34 c0_i32_38
  let v90 : BitVec 32 := Scalar.extui v89
  let v91 : BitVec 32 := Scalar.subi v88 v90
  let v92 : BitVec 1 := Scalar.cmpi .ne v86 v91
  let v93 : BitVec 32 := Scalar.remsi arg1 c2_i32_34
  let c0_i32_39 : BitVec 32 := 0#32
  let v94 : BitVec 1 := Scalar.cmpi .ne v93 c0_i32_39
  let v95 : BitVec 1 := Scalar.andi v92 v94
  let v81 : BitVec 32 := Scalar.divsi arg1 c2_i32_34
  let c1_i32_40 : BitVec 32 := 1#32
  let v96 : BitVec 32 := Scalar.subi v81 c1_i32_40
  let v97 : BitVec 32 := Scalar.select v95 v96 v81
  let c4_i32 : BitVec 32 := 4#32
  let v98 : BitVec 32 := Scalar.addi v97 c4_i32
  let c8_i32_41 : BitVec 32 := 8#32
  let v99 : BitVec 32 := Scalar.remsi v98 c8_i32_41
  let c8192_i32_42 : BitVec 32 := 8192#32
  let v100 : BitVec 32 := Scalar.muli v99 c8192_i32_42
  let c0_i32_109 : BitVec 32 := 0#32
  let c0_i32_89 : BitVec 32 := 0#32
  let c1_i32_91 : BitVec 32 := 1#32
  let arg22 : BitVec 32 := Scf.iv c0_i32_89 c1_i32_91 k0_t6
  let c1_i32_108 : BitVec 32 := 1#32
  let v242 : BitVec 32 := Scalar.muli arg22 c1_i32_108
  let v243 : BitVec 32 := Scalar.addi c0_i32_109 v242
  let c16_i32 : BitVec 32 := 16#32
  let v244 : BitVec 32 := Scalar.muli v243 c16_i32
  let v245 : BitVec 32 := Scalar.addi v100 v244
  let v246 : Index := Scalar.indexCast v245
  ![v246.toNat]

def k0_chk5 (v253 : IVec S16 32) : Prop :=
  (∀ a x, ((![v253] : Fin 1 → IVec S16 32) a x).toNat < S62720.size a)
theorem k0_idx5_inb : ∀ (v253 : IVec S16 32) (k0_hw5 : k0_chk5 v253), ∀ a x, ((![v253] : Fin 1 → IVec S16 32) a x).toNat < S62720.size a := fun v253 k0_hw5 => k0_hw5
@[reducible] def k0_t7_loop : Scf.Loop 32 :=
  let c0_i32_93 : BitVec 32 := 0#32
  let c512_i32_94 : BitVec 32 := 512#32
  let v225 : BitVec 32 := Scalar.addi c0_i32_93 c512_i32_94
  let c1_i32_95 : BitVec 32 := 1#32
  ⟨c0_i32_93, v225, c1_i32_95⟩
def k0_off8 (i : grid0.Coords) (k0_t7 : Fin k0_t7_loop.trips) : Fin 1 → Nat :=
  let arg1 : BitVec 32 := BitVec.ofNat 32 (i 1).val
  let c0_i32_44 : BitVec 32 := 0#32
  let v102 : BitVec 1 := Scalar.cmpi .sgt arg1 c0_i32_44
  let v103 : BitVec 32 := Scalar.extui v102
  let c0_i32_45 : BitVec 32 := 0#32
  let v104 : BitVec 1 := Scalar.cmpi .slt arg1 c0_i32_45
  let v105 : BitVec 32 := Scalar.extui v104
  let v106 : BitVec 32 := Scalar.subi v103 v105
  let c2_i32_43 : BitVec 32 := 2#32
  let c0_i32_46 : BitVec 32 := 0#32
  let v107 : BitVec 1 := Scalar.cmpi .sgt c2_i32_43 c0_i32_46
  let v108 : BitVec 32 := Scalar.extui v107
  let c0_i32_47 : BitVec 32 := 0#32
  let v109 : BitVec 1 := Scalar.cmpi .slt c2_i32_43 c0_i32_47
  let v110 : BitVec 32 := Scalar.extui v109
  let v111 : BitVec 32 := Scalar.subi v108 v110
  let v112 : BitVec 1 := Scalar.cmpi .ne v106 v111
  let v113 : BitVec 32 := Scalar.remsi arg1 c2_i32_43
  let c0_i32_48 : BitVec 32 := 0#32
  let v114 : BitVec 1 := Scalar.cmpi .ne v113 c0_i32_48
  let v115 : BitVec 1 := Scalar.andi v112 v114
  let v101 : BitVec 32 := Scalar.divsi arg1 c2_i32_43
  let c1_i32_49 : BitVec 32 := 1#32
  let v116 : BitVec 32 := Scalar.subi v101 c1_i32_49
  let v117 : BitVec 32 := Scalar.select v115 v116 v101
  let c5_i32 : BitVec 32 := 5#32
  let v118 : BitVec 32 := Scalar.addi v117 c5_i32
  let c8_i32_50 : BitVec 32 := 8#32
  let v119 : BitVec 32 := Scalar.remsi v118 c8_i32_50
  let c8192_i32_51 : BitVec 32 := 8192#32
  let v120 : BitVec 32 := Scalar.muli v119 c8192_i32_51
  let c0_i32_109 : BitVec 32 := 0#32
  let c0_i32_93 : BitVec 32 := 0#32
  let c1_i32_95 : BitVec 32 := 1#32
  let arg22 : BitVec 32 := Scf.iv c0_i32_93 c1_i32_95 k0_t7
  let c1_i32_108 : BitVec 32 := 1#32
  let v242 : BitVec 32 := Scalar.muli arg22 c1_i32_108
  let v243 : BitVec 32 := Scalar.addi c0_i32_109 v242
  let c16_i32 : BitVec 32 := 16#32
  let v244 : BitVec 32 := Scalar.muli v243 c16_i32
  let v245 : BitVec 32 := Scalar.addi v120 v244
  let v246 : Index := Scalar.indexCast v245
  ![v246.toNat]

def k0_chk6 (v253 : IVec S16 32) : Prop :=
  (∀ a x, ((![v253] : Fin 1 → IVec S16 32) a x).toNat < S62720.size a)
theorem k0_idx6_inb : ∀ (v253 : IVec S16 32) (k0_hw6 : k0_chk6 v253), ∀ a x, ((![v253] : Fin 1 → IVec S16 32) a x).toNat < S62720.size a := fun v253 k0_hw6 => k0_hw6
@[reducible] def k0_t8_loop : Scf.Loop 32 :=
  let c0_i32_97 : BitVec 32 := 0#32
  let c512_i32_98 : BitVec 32 := 512#32
  let v230 : BitVec 32 := Scalar.addi c0_i32_97 c512_i32_98
  let c1_i32_99 : BitVec 32 := 1#32
  ⟨c0_i32_97, v230, c1_i32_99⟩
def k0_off9 (i : grid0.Coords) (k0_t8 : Fin k0_t8_loop.trips) : Fin 1 → Nat :=
  let arg1 : BitVec 32 := BitVec.ofNat 32 (i 1).val
  let c0_i32_53 : BitVec 32 := 0#32
  let v122 : BitVec 1 := Scalar.cmpi .sgt arg1 c0_i32_53
  let v123 : BitVec 32 := Scalar.extui v122
  let c0_i32_54 : BitVec 32 := 0#32
  let v124 : BitVec 1 := Scalar.cmpi .slt arg1 c0_i32_54
  let v125 : BitVec 32 := Scalar.extui v124
  let v126 : BitVec 32 := Scalar.subi v123 v125
  let c2_i32_52 : BitVec 32 := 2#32
  let c0_i32_55 : BitVec 32 := 0#32
  let v127 : BitVec 1 := Scalar.cmpi .sgt c2_i32_52 c0_i32_55
  let v128 : BitVec 32 := Scalar.extui v127
  let c0_i32_56 : BitVec 32 := 0#32
  let v129 : BitVec 1 := Scalar.cmpi .slt c2_i32_52 c0_i32_56
  let v130 : BitVec 32 := Scalar.extui v129
  let v131 : BitVec 32 := Scalar.subi v128 v130
  let v132 : BitVec 1 := Scalar.cmpi .ne v126 v131
  let v133 : BitVec 32 := Scalar.remsi arg1 c2_i32_52
  let c0_i32_57 : BitVec 32 := 0#32
  let v134 : BitVec 1 := Scalar.cmpi .ne v133 c0_i32_57
  let v135 : BitVec 1 := Scalar.andi v132 v134
  let v121 : BitVec 32 := Scalar.divsi arg1 c2_i32_52
  let c1_i32_58 : BitVec 32 := 1#32
  let v136 : BitVec 32 := Scalar.subi v121 c1_i32_58
  let v137 : BitVec 32 := Scalar.select v135 v136 v121
  let c6_i32 : BitVec 32 := 6#32
  let v138 : BitVec 32 := Scalar.addi v137 c6_i32
  let c8_i32_59 : BitVec 32 := 8#32
  let v139 : BitVec 32 := Scalar.remsi v138 c8_i32_59
  let c8192_i32_60 : BitVec 32 := 8192#32
  let v140 : BitVec 32 := Scalar.muli v139 c8192_i32_60
  let c0_i32_109 : BitVec 32 := 0#32
  let c0_i32_97 : BitVec 32 := 0#32
  let c1_i32_99 : BitVec 32 := 1#32
  let arg22 : BitVec 32 := Scf.iv c0_i32_97 c1_i32_99 k0_t8
  let c1_i32_108 : BitVec 32 := 1#32
  let v242 : BitVec 32 := Scalar.muli arg22 c1_i32_108
  let v243 : BitVec 32 := Scalar.addi c0_i32_109 v242
  let c16_i32 : BitVec 32 := 16#32
  let v244 : BitVec 32 := Scalar.muli v243 c16_i32
  let v245 : BitVec 32 := Scalar.addi v140 v244
  let v246 : Index := Scalar.indexCast v245
  ![v246.toNat]

def k0_chk7 (v253 : IVec S16 32) : Prop :=
  (∀ a x, ((![v253] : Fin 1 → IVec S16 32) a x).toNat < S62720.size a)
theorem k0_idx7_inb : ∀ (v253 : IVec S16 32) (k0_hw7 : k0_chk7 v253), ∀ a x, ((![v253] : Fin 1 → IVec S16 32) a x).toNat < S62720.size a := fun v253 k0_hw7 => k0_hw7
@[reducible] def k0_t9_loop : Scf.Loop 32 :=
  let c0_i32_101 : BitVec 32 := 0#32
  let c512_i32_102 : BitVec 32 := 512#32
  let v235 : BitVec 32 := Scalar.addi c0_i32_101 c512_i32_102
  let c1_i32_103 : BitVec 32 := 1#32
  ⟨c0_i32_101, v235, c1_i32_103⟩
def k0_off10 (i : grid0.Coords) (k0_t9 : Fin k0_t9_loop.trips) : Fin 1 → Nat :=
  let arg1 : BitVec 32 := BitVec.ofNat 32 (i 1).val
  let c0_i32_62 : BitVec 32 := 0#32
  let v142 : BitVec 1 := Scalar.cmpi .sgt arg1 c0_i32_62
  let v143 : BitVec 32 := Scalar.extui v142
  let c0_i32_63 : BitVec 32 := 0#32
  let v144 : BitVec 1 := Scalar.cmpi .slt arg1 c0_i32_63
  let v145 : BitVec 32 := Scalar.extui v144
  let v146 : BitVec 32 := Scalar.subi v143 v145
  let c2_i32_61 : BitVec 32 := 2#32
  let c0_i32_64 : BitVec 32 := 0#32
  let v147 : BitVec 1 := Scalar.cmpi .sgt c2_i32_61 c0_i32_64
  let v148 : BitVec 32 := Scalar.extui v147
  let c0_i32_65 : BitVec 32 := 0#32
  let v149 : BitVec 1 := Scalar.cmpi .slt c2_i32_61 c0_i32_65
  let v150 : BitVec 32 := Scalar.extui v149
  let v151 : BitVec 32 := Scalar.subi v148 v150
  let v152 : BitVec 1 := Scalar.cmpi .ne v146 v151
  let v153 : BitVec 32 := Scalar.remsi arg1 c2_i32_61
  let c0_i32_66 : BitVec 32 := 0#32
  let v154 : BitVec 1 := Scalar.cmpi .ne v153 c0_i32_66
  let v155 : BitVec 1 := Scalar.andi v152 v154
  let v141 : BitVec 32 := Scalar.divsi arg1 c2_i32_61
  let c1_i32_67 : BitVec 32 := 1#32
  let v156 : BitVec 32 := Scalar.subi v141 c1_i32_67
  let v157 : BitVec 32 := Scalar.select v155 v156 v141
  let c7_i32 : BitVec 32 := 7#32
  let v158 : BitVec 32 := Scalar.addi v157 c7_i32
  let c8_i32_68 : BitVec 32 := 8#32
  let v159 : BitVec 32 := Scalar.remsi v158 c8_i32_68
  let c8192_i32_69 : BitVec 32 := 8192#32
  let v160 : BitVec 32 := Scalar.muli v159 c8192_i32_69
  let c0_i32_109 : BitVec 32 := 0#32
  let c0_i32_101 : BitVec 32 := 0#32
  let c1_i32_103 : BitVec 32 := 1#32
  let arg22 : BitVec 32 := Scf.iv c0_i32_101 c1_i32_103 k0_t9
  let c1_i32_108 : BitVec 32 := 1#32
  let v242 : BitVec 32 := Scalar.muli arg22 c1_i32_108
  let v243 : BitVec 32 := Scalar.addi c0_i32_109 v242
  let c16_i32 : BitVec 32 := 16#32
  let v244 : BitVec 32 := Scalar.muli v243 c16_i32
  let v245 : BitVec 32 := Scalar.addi v160 v244
  let v246 : Index := Scalar.indexCast v245
  ![v246.toNat]

def k0_chk8 (v253 : IVec S16 32) : Prop :=
  (∀ a x, ((![v253] : Fin 1 → IVec S16 32) a x).toNat < S62720.size a)
theorem k0_idx8_inb : ∀ (v253 : IVec S16 32) (k0_hw8 : k0_chk8 v253), ∀ a x, ((![v253] : Fin 1 → IVec S16 32) a x).toNat < S62720.size a := fun v253 k0_hw8 => k0_hw8
def k0_cond1 (i : grid0.Coords) : BitVec 1 :=
  let arg1 : BitVec 32 := BitVec.ofNat 32 (i 1).val
  let c15_i32 : BitVec 32 := 15#32
  let v236 : BitVec 1 := Scalar.cmpi .slt arg1 c15_i32
  let v237 : BitVec 32 := Scalar.extui v236
  let c0_i32_105 : BitVec 32 := 0#32
  let v238 : BitVec 1 := Scalar.cmpi .ne v237 c0_i32_105
  v238

def k0_off11 (i : grid0.Coords) (c0_i32_108 : BitVec 32) : Fin 1 → Nat :=
  let arg1 : BitVec 32 := BitVec.ofNat 32 (i 1).val
  let c62720_i32 : BitVec 32 := 62720#32
  let v0 : BitVec 32 := Scalar.muli arg1 c62720_i32
  let v242 : BitVec 32 := Scalar.addi v0 c0_i32_108
  ![v242.toNat]
def k0_cond2 (i : grid0.Coords) : BitVec 1 :=
  let arg1 : BitVec 32 := BitVec.ofNat 32 (i 1).val
  let c15_i32_106 : BitVec 32 := 15#32
  let v239 : BitVec 1 := Scalar.cmpi .eq arg1 c15_i32_106
  let v240 : BitVec 32 := Scalar.extui v239
  let c0_i32_107 : BitVec 32 := 0#32
  let v241 : BitVec 1 := Scalar.cmpi .ne v240 c0_i32_107
  v241

def k0_off12 (i : grid0.Coords) (c0_i32_108 : BitVec 32) : Fin 1 → Nat :=
  let arg1 : BitVec 32 := BitVec.ofNat 32 (i 1).val
  let c62720_i32 : BitVec 32 := 62720#32
  let v0 : BitVec 32 := Scalar.muli arg1 c62720_i32
  let v242 : BitVec 32 := Scalar.addi v0 c0_i32_108
  ![v242.toNat]
abbrev scKind : Fin 1 → Kind := fun | 0 => .scVector | ⟨_ + 1, h⟩ => absurd h (Nat.not_lt.2 (Nat.le_add_left _ _))
abbrev scNCore : Fin 1 → Nat := fun | 0 => 1 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S1000000 : Shape := ⟨1, ![1000000]⟩
abbrev S1 : Shape := ⟨1, ![1]⟩
abbrev S65536 : Shape := ⟨1, ![65536]⟩
abbrev S_ : Shape := ⟨0, ![]⟩
abbrev S65536x1 : Shape := ⟨2, ![65536, 1]⟩

abbrev nBuf : Space → Nat
  | .hbm => 16
  | .vmem => 0
  | .smem => 0
  | _ => 0

abbrev bufTy : (tb : Table) → Fin (tcTables nBuf tb) → BufTy
  | .hbm, ⟨0, _⟩ => ⟨S1000000, .f32⟩
  | .hbm, ⟨1, _⟩ => ⟨S1, .f32⟩
  | .hbm, ⟨2, _⟩ => ⟨S65536, .i32⟩
  | .hbm, ⟨3, _⟩ => ⟨S_, .f32⟩
  | .hbm, ⟨4, _⟩ => ⟨S1000000, .f32⟩
  | .hbm, ⟨5, _⟩ => ⟨S_, .i32⟩
  | .hbm, ⟨6, _⟩ => ⟨S65536, .i32⟩
  | .hbm, ⟨7, _⟩ => ⟨S65536, .i1⟩
  | .hbm, ⟨8, _⟩ => ⟨S_, .i32⟩
  | .hbm, ⟨9, _⟩ => ⟨S65536, .i32⟩
  | .hbm, ⟨10, _⟩ => ⟨S65536, .i32⟩
  | .hbm, ⟨11, _⟩ => ⟨S65536, .i32⟩
  | .hbm, ⟨12, _⟩ => ⟨S65536x1, .i32⟩
  | .hbm, ⟨13, _⟩ => ⟨S_, .f32⟩
  | .hbm, ⟨14, _⟩ => ⟨S65536, .f32⟩
  | .hbm, ⟨15, _⟩ => ⟨S1000000, .f32⟩
  | _, _ => ⟨S1000000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_c : Ref sig .tc := ⟨.hbm, 5, rfl⟩
abbrev main_v1 : Ref sig .tc := ⟨.hbm, 6, rfl⟩
abbrev main_v2 : Ref sig .tc := ⟨.hbm, 7, rfl⟩
abbrev main_c_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩

abbrev nD : Nat := 1
abbrev τ : Topo := Topo.v7x

variable {F : FTy → Type} [FloatOps F]
-- ==== Proof.Words.lean ====
/- The word arithmetic of the scatter kernel and the values its buffers hold: where a tile's rotated
   chunks and its sixteen-lane reads lie, what a masked store at lane indices leaves, and the marks
   a set of index words leaves on a tile's range. -/
module

public import proofs.«01_k».proof.Proof.Gen.KernelIdeal
public import proofs.«01_k».proof.Proof.Gen.KernelIdeal.Skeleton

@[expose] public section

noncomputable section

namespace Cert.Proof.Ones

open Idealize.ShloMosaic
open Cert.KernelIdeal Cert.KernelIdeal.Gen

/-- Where copy `r` of a tile starts: the tile's own first chunk, and the others after it, modulo eight. -/
def rot (i : grid0.Coords) (r : Nat) : Nat := 8192 * (((i 1).val / 2 + r) % 8)

theorem rot_le (i : grid0.Coords) (r : Nat) : rot i r ≤ 57344 := by unfold rot; omega

/-- The printed start of copy `r` is `rot`. -/
theorem off1_eq : ∀ (i : grid0.Coords) (r : Fin 8), k0_off1 i (BitVec.ofNat 32 r.val) = ![rot i r.val] := by
  unfold rot; decide +kernel

/-- The start of trip `t`'s sixteen words, from the start of the chunk. -/
theorem trip_toNat (b : BitVec 32) (t : Nat) (hb : b.toNat ≤ 57344) (ht : t < 512) :
    (Scalar.addi b (Scalar.muli (Scalar.addi 0#32 (Scalar.muli (Scf.iv 0#32 1#32 t) 1#32)) 16#32)).toNat = b.toNat + 16 * t := by
  simp only [Scalar.addi, Scalar.muli, IntOp.addi, IntOp.muli, Scf.iv, BitVec.zero_add, BitVec.mul_one, BitVec.toNat_add,
    BitVec.toNat_mul, BitVec.toNat_ofNat]
  omega

/-- The printed start of a trip of the scan of chunk `r`, whichever of the eight loops it is of. -/
theorem offT_eq (i : grid0.Coords) (r : Fin 8) (t : Nat) (ht : t < 512) (off : Fin 1 → Nat) (b : BitVec 32)
    (hb : b.toNat = k0_off1 i (BitVec.ofNat 32 r.val) 0)
    (h : off 0 = (Scalar.addi b (Scalar.muli (Scalar.addi 0#32 (Scalar.muli (Scf.iv 0#32 1#32 t) 1#32)) 16#32)).toNat) :
    off = ![rot i r.val + 16 * t] := by
  rw [off1_eq] at hb
  have hb' : b.toNat = rot i r.val := hb
  funext a
  obtain rfl : a = 0 := Subsingleton.elim _ _
  rw [h, trip_toNat b t (by rw [hb']; exact rot_le i _) ht, hb']
  rfl

theorem off3_eq (i : grid0.Coords) (t : Fin k0_t2_loop.trips) : k0_off3 i t = ![rot i 0 + 16 * t.val] :=
  offT_eq i 0 t.val (Nat.lt_of_lt_of_le t.isLt k0_t2_abs.2.1) _ _ rfl rfl
theorem off4_eq (i : grid0.Coords) (t : Fin k0_t3_loop.trips) : k0_off4 i t = ![rot i 1 + 16 * t.val] :=
  offT_eq i 1 t.val (Nat.lt_of_lt_of_le t.isLt k0_t3_abs.2.1) _ _ rfl rfl
theorem off5_eq (i : grid0.Coords) (t : Fin k0_t4_loop.trips) : k0_off5 i t = ![rot i 2 + 16 * t.val] :=
  offT_eq i 2 t.val (Nat.lt_of_lt_of_le t.isLt k0_t4_abs.2.1) _ _ rfl rfl
theorem off6_eq (i : grid0.Coords) (t : Fin k0_t5_loop.trips) : k0_off6 i t = ![rot i 3 + 16 * t.val] :=
  offT_eq i 3 t.val (Nat.lt_of_lt_of_le t.isLt k0_t5_abs.2.1) _ _ rfl rfl
theorem off7_eq (i : grid0.Coords) (t : Fin k0_t6_loop.trips) : k0_off7 i t = ![rot i 4 + 16 * t.val] :=
  offT_eq i 4 t.val (Nat.lt_of_lt_of_le t.isLt k0_t6_abs.2.1) _ _ rfl rfl
theorem off8_eq (i : grid0.Coords) (t : Fin k0_t7_loop.trips) : k0_off8 i t = ![rot i 5 + 16 * t.val] :=
  offT_eq i 5 t.val (Nat.lt_of_lt_of_le t.isLt k0_t7_abs.2.1) _ _ rfl rfl
theorem off9_eq (i : grid0.Coords) (t : Fin k0_t8_loop.trips) : k0_off9 i t = ![rot i 6 + 16 * t.val] :=
  offT_eq i 6 t.val (Nat.lt_of_lt_of_le t.isLt k0_t8_abs.2.1) _ _ rfl rfl
theorem off10_eq (i : grid0.Coords) (t : Fin k0_t9_loop.trips) : k0_off10 i t = ![rot i 7 + 16 * t.val] :=
  offT_eq i 7 t.val (Nat.lt_of_lt_of_le t.isLt k0_t9_abs.2.1) _ _ rfl rfl

/-- Every word of the index array lies in exactly one of a tile's eight chunks: it is the chunk
    `rotOf i x`. -/
def rotOf (i : grid0.Coords) (x : Nat) : Nat := (x / 8192 + 8 - (i 1).val / 2) % 8

theorem mem_chunk_iff (i : grid0.Coords) (r x : Nat) (hr : r < 8) (hx : x < 65536) :
    (rot i r ≤ x ∧ x < rot i r + 8192) ↔ rotOf i x = r := by
  have h1 : (i 1).val < 16 := (i 1).isLt
  unfold rot rotOf
  omega

/-! ## The store at lane indices -/

open Classical in
/-- A fold of masked writes of one value leaves that value at each element some set lane names and
    the old contents elsewhere. -/
theorem foldl_marks {α J L : Type} (c : α) (on : L → Prop) (hit : L → J → Prop)
    [∀ l, Decidable (on l)] [∀ l j, Decidable (hit l j)] (l : List L) (f : J → α) (j : J) :
    l.foldl (fun g k => if on k then (fun j => if hit k j then c else g j) else g) f j
      = if ∃ k ∈ l, on k ∧ hit k j then c else f j := by
  induction l generalizing f with
  | nil => simp
  | cons a l ih =>
    rw [List.foldl_cons, ih]
    by_cases h : ∃ k ∈ l, on k ∧ hit k j
    · rw [if_pos h, if_pos]
      obtain ⟨k, hk, h⟩ := h
      exact ⟨k, List.mem_cons_of_mem _ hk, h⟩
    · rw [if_neg h]
      by_cases ha : on a
      · by_cases hh : hit a j
        · rw [if_pos ha, if_pos hh, if_pos ⟨a, List.mem_cons_self, ha, hh⟩]
        · rw [if_pos ha, if_neg hh, if_neg]
          rintro ⟨k, hk, h1, h2⟩
          rcases List.mem_cons.mp hk with rfl | hk
          · exact hh h2
          · exact h ⟨k, hk, h1, h2⟩
      · rw [if_neg ha, if_neg]
        rintro ⟨k, hk, h1, h2⟩
        rcases List.mem_cons.mp hk with rfl | hk
        · exact ha h1
        · exact h ⟨k, hk, h1, h2⟩

variable {F : FTy → Type} [FloatOps F]

/-- The one-element index shape: an index is its only coordinate. -/
theorem idx1_ext {n : Nat} {x y : (⟨1, ![n]⟩ : Shape).Idx} (h : (x 0).val = (y 0).val) : x = y := by
  funext a
  obtain rfl : a = 0 := Subsingleton.elim _ _
  exact Fin.ext h

/-- Lane `k` of the sixteen. -/
def lane (k : Fin 16) : S16.Idx := Shape.ofLane (d := ![16]) k

open Classical in
/-- The masked store of one value at sixteen lane indices. -/
theorem storeIdx_one (f : Vec F S62720 .f32) (ix : IVec S16 32) (c : F .f32) (mk : IVec S16 1)
    (h : ∀ a x, ((![ix] : Fin 1 → IVec S16 32) a x).toNat < S62720.size a) (j : S62720.Idx) :
    storeIdx (F := F) (s := S62720) (e := .f32) f ![ix] (fun _ => c) mk false h j
      = if ∃ x : S16.Idx, mk x = 1 ∧ (ix x).toNat = (j 0).val then c else f j := by
  unfold storeIdx
  simp only [Bool.false_eq_true, if_false]
  refine (foldl_marks (J := S62720.Idx) c (fun k : Fin ((![16] : Fin 1 → Nat) 0) => mk (Shape.ofLane (d := ![16]) k) = 1)
    (fun k (j : S62720.Idx) => ∀ a, (j a).val = (idxAt ![ix] h (Shape.ofLane (d := ![16]) k) a).val)
    (List.finRange ((![16] : Fin 1 → Nat) 0)) f j).trans ?_
  congr 1
  refine propext ⟨?_, ?_⟩
  · rintro ⟨k, -, h1, h2⟩
    exact ⟨Shape.ofLane k, h1, (h2 0).symm⟩
  · rintro ⟨x, h1, h2⟩
    refine ⟨x 0, List.mem_finRange _, ?_⟩
    have hx : Shape.ofLane (d := ![16]) (x 0) = x := idx1_ext rfl
    rw [hx]
    refine ⟨h1, fun a => ?_⟩
    obtain rfl : a = 0 := Subsingleton.elim _ _
    exact h2.symm

/-! ## The marks -/

/-- Word `x`'s difference from a tile's base, and whether it lies in the tile's range; the printed
    lane computations, over sixteen words. -/
def laneOn (b : BitVec 32) (v : IVec S16 32) : IVec S16 1 := cmpi .ult (subi v (broadcast S16 b)) (broadcast S16 62720#32)
def laneIx (b : BitVec 32) (v : IVec S16 32) : IVec S16 32 := select (laneOn b v) (subi v (broadcast S16 b)) (broadcast S16 0#32)

theorem laneOn_iff (b : BitVec 32) (v : IVec S16 32) (x : S16.Idx) : laneOn b v x = 1 ↔ (v x - b).toNat < 62720 := by
  show BitVec.ofBool ((v x - b).ult 62720#32) = 1 ↔ _
  rw [BitVec.ult, show (62720#32).toNat = 62720 from rfl]
  by_cases h : (v x - b).toNat < 62720
  · simp only [h, decide_true, iff_true]; rfl
  · simp only [h, decide_false, iff_false]; decide

theorem laneIx_eq (b : BitVec 32) (v : IVec S16 32) (x : S16.Idx) :
    laneIx b v x = if (v x - b).toNat < 62720 then v x - b else 0#32 := by
  show (if laneOn b v x = 1 then v x - b else 0#32) = _
  simp only [laneOn_iff]

/-- A lane's index is inside the tile's buffer, whether the lane is on or not. -/
theorem laneIx_lt (b : BitVec 32) (v : IVec S16 32) : ∀ a x, ((![laneIx b v] : Fin 1 → IVec S16 32) a x).toNat < S62720.size a := by
  intro a x
  obtain rfl : a = 0 := Subsingleton.elim _ _
  show (laneIx b v x).toNat < 62720
  rw [laneIx_eq]
  split
  · assumption
  · decide

open Classical in
/-- A tile's range after the words at the positions of `A` were scanned: `one` where some such word
    points, `zero` elsewhere. -/
def marks {α : Type} (zero one : α) (b : BitVec 32) (g : S65536.Idx → BitVec 32) (A : Nat → Prop) : S62720.Idx → α :=
  fun p => if ∃ j : S65536.Idx, A (j 0).val ∧ (g j - b).toNat = (p 0).val then one else zero

theorem marks_none {α : Type} (zero one : α) (b : BitVec 32) (g : S65536.Idx → BitVec 32) :
    marks zero one b g (fun _ => False) = fun _ => zero := by
  funext p
  exact if_neg (by rintro ⟨j, h, -⟩; exact h)

/-- The marks depend on which positions were scanned only. -/
theorem marks_congr {α : Type} (zero one : α) (b : BitVec 32) (g : S65536.Idx → BitVec 32) {A B : Nat → Prop}
    (h : ∀ x < 65536, A x ↔ B x) : marks zero one b g A = marks zero one b g B := by
  funext p
  unfold marks
  congr 1
  exact propext ⟨fun ⟨j, hj, e⟩ => ⟨j, (h _ (j 0).isLt).mp hj, e⟩, fun ⟨j, hj, e⟩ => ⟨j, (h _ (j 0).isLt).mpr hj, e⟩⟩

/-- One trip of a scan: sixteen more words' marks. -/
theorem marks_step (zero one : F .f32) (b : BitVec 32) (g : S65536.Idx → BitVec 32) (A : Nat → Prop) (o : Nat)
    (v : IVec S16 32) (e : S16.Idx → S65536.Idx) (he : ∀ x, (e x 0).val = o + (x 0).val) (hv : ∀ x, v x = g (e x))
    (h : ∀ a x, ((![laneIx b v] : Fin 1 → IVec S16 32) a x).toNat < S62720.size a) :
    storeIdx (F := F) (s := S62720) (e := .f32) (marks zero one b g A) ![laneIx b v] (fun _ => one) (laneOn b v) false h
      = marks zero one b g (fun n => A n ∨ (o ≤ n ∧ n < o + 16)) := by
  classical
  funext p
  rw [storeIdx_one]
  have hp : (p 0).val < 62720 := (p 0).isLt
  by_cases hx : ∃ x : S16.Idx, laneOn b v x = 1 ∧ (laneIx b v x).toNat = (p 0).val
  · rw [if_pos hx]
    obtain ⟨x, h1, h2⟩ := hx
    rw [laneOn_iff] at h1
    rw [laneIx_eq, if_pos h1, hv] at h2
    have hx16 : (x 0).val < 16 := (x 0).isLt
    exact (if_pos ⟨e x, Or.inr (by rw [he]; omega), h2⟩).symm
  · rw [if_neg hx]
    unfold marks
    congr 1
    refine propext ⟨fun ⟨j, hj, e⟩ => ⟨j, Or.inl hj, e⟩, ?_⟩
    rintro ⟨j, hj | hj, ej⟩
    · exact ⟨j, hj, ej⟩
    · exfalso
      have hlt : (j 0).val - o < 16 := by omega
      have hej : e (lane ⟨(j 0).val - o, hlt⟩) = j :=
        idx1_ext (by rw [he]; show o + ((j 0).val - o) = _; omega)
      refine hx ⟨lane ⟨(j 0).val - o, hlt⟩, ?_⟩
      rw [laneOn_iff, laneIx_eq, hv, hej, ej, if_pos hp]
      exact ⟨hp, ej⟩

end Cert.Proof.Ones
-- ==== Proof.Scan.lean ====
/- The loops of one tile of the scatter kernel: the loop that fills its range with zeros, and the
   loop — one text for the eight printed ones — that scans a chunk of the index words and marks the
   ones in the tile's range. -/
module

public import proofs.«01_k».proof.Defs
public import proofs.«01_k».proof.Proof.Words
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Tactic
public import Idealize.ShloMosaic.Lib.Writes

@[expose] public section

noncomputable section

namespace Cert.Proof.Ones

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

/-- The launch's facts of the handshake semaphores and of what the tiles share. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds beside the transfers' counters -/

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The buffers -/

/-- The index words and the result in HBM, a tile's copy of the index words, and its range of the result. -/
abbrev iV : Memref sig .scVector .hbm S65536 .i32 := Memref.whole main_arg2_scv
abbrev oV : Memref sig .scVector .hbm S1000000 .f32 := Memref.whole main_v0_scv
abbrev sI : Memref sig .scVector .vmem S65536 .i32 := Memref.whole cc0_scratch0
abbrev sC : Memref sig .scVector .vmem S62720 .f32 := Memref.whole cc0_scratch1

abbrev cV (L : grid0.Coords) : Fin τ.nSC := (L 0).castLE hcore0
abbrev jV (L : grid0.Coords) : Fin τ.nSub := (L 1).castLE hsub0
/-- The thread of the tile at grid point `L`. -/
abbrev tV (d : Dev nD) (L : grid0.Coords) : Thread nD τ := V d (cV L) (jV L)

/-- Chunk `r` of the index words as tile `L` copies it. -/
abbrev ck (L : grid0.Coords) (r : Fin 8) : Rect S65536 :=
  Rect.unit (s := S65536) (k0_off1 L (BitVec.ofNat 32 r.val)) S8192.size (k0_off1_inb L r)

variable [FloatOps F]

/-- Zero and one, as the kernel's two constants. -/
abbrev zeroF : F .f32 := Scalar.ofBits .f32 0x00000000#32
abbrev oneF : F .f32 := Scalar.ofBits .f32 0x3F800000#32

variable (d : Dev nD) (L : grid0.Coords)

/-- The word a tile's range starts at. -/
abbrev baseW (L : grid0.Coords) : BitVec 32 := Scalar.muli (BitVec.ofNat 32 (L 1).val) 62720#32

/-- Chunk `r` of the tile's copy of the index words, at the words `g`. -/
abbrev ckPts (r : Fin 8) (g : S65536.Idx → BitVec 32) : sProp 𝕄 :=
  (sI.slice (ck L r) (fun _ => rfl)).view.loc (tV d L) ↦[(sI.slice (ck L r) (fun _ => rfl)).view.set]{fullShare} g
/-- The tile's range of the result, whole, at `f`. -/
abbrev rgPts (f : S62720.Idx → F .f32) : sProp 𝕄 := (sC).view.loc (tV d L) ↦{fullShare} f

/-! ## The scan of a chunk -/

/-- A trip of a scan, over what the eight printed loops differ in: the trip's offset, and the name
    of the check of the lanes' indices. -/
def scanBody (n : Nat) (off : Fin n → Fin 1 → Nat) (inb : ∀ t a, off t a + S16.size a ≤ S65536.size a)
    (chk : IVec S16 32 → Prop) (dec : ∀ v, Decidable (chk v))
    (hin : ∀ v, chk v → ∀ a x, ((![v] : Fin 1 → IVec S16 32) a x).toNat < S62720.size a) (b : BitVec 32) (v195 : FVec F S16 .f32) :
    Fin n → Unit → Prog (TpuEff nD τ sig (Elt F) Λ₀ (.scVector ((L 0).castLE hcore0) ((L 1).castLE hsub0))) Unit :=
  fun t _ => do
    let v247 : Vec F S16 .i32 ← Prog.lift (.load sI (Rect.unit (s := S65536) (off t) S16.size (inb t)).toLoadRect (View.loadsAt_vmem h_S16))
    have v253 : IVec S16 32 := laneIx b v247
    have hw : chk v253 := (← Prog.lift (TpuEff.assume (chk v253) (dec v253))).down
    SparseCore.vectorStoreIdx sC ![v253] v195 (laneOn b v247) false (hin v253 hw) (View.stores_vmem_bits_univ h_S62720 rfl)
    pure ⟨⟩

/-- A scan's invariant: the chunk at its words, the range marked by the positions of `A` and by the
    chunk's first `16 * t`. -/
def scanInv (r : Fin 8) (g : S65536.Idx → BitVec 32) (A : Nat → Prop) (t : Nat) (_ : Unit) : sProp 𝕄 :=
  iprop(ckPts (F := F) d L r g ∗ rgPts d L (marks zeroF oneF (baseW L) g (fun n => A n ∨ (rot L r.val ≤ n ∧ n < rot L r.val + 16 * t))))

omit [FloatOps F] in
/-- A trip's sixteen words lie in the chunk. -/
theorem trip_sub (r : Fin 8) (t : Nat) (ht : t < 512) (off : Fin 1 → Nat) (inb : ∀ a, off a + S16.size a ≤ S65536.size a)
    (hoff : off = ![rot L r.val + 16 * t]) :
    (sI).view.setOn (Rect.unit (s := S65536) off S16.size inb).toLoadRect.set ⊆ (sI.slice (ck L r) (fun _ => rfl)).view.set := by
  subst hoff
  have key : (Rect.unit (s := S65536) ![rot L r.val + 16 * t] S16.size inb).set ⊆ (ck L r).set := by
    intro j hj
    rw [Rect.mem_set_unit] at hj ⊢
    intro a
    obtain rfl : a = 0 := Subsingleton.elim _ _
    have h0 := hj 0
    rw [off1_eq]
    have e1 : (![rot L r.val + 16 * t] : Fin 1 → Nat) 0 = rot L r.val + 16 * t := rfl
    have e2 : (![rot L r.val] : Fin 1 → Nat) 0 = rot L r.val := rfl
    have e3 : S16.size 0 = 16 := rfl
    have e4 : S8192.size 0 = 8192 := rfl
    rw [e1, e3] at h0
    rw [e2, e4]
    omega
  have h2 : (sI.slice (ck L r) (fun _ => rfl)).view.set = (ck L r).set := View.set_slice_whole cc0_scratch0 (ck L r)
  rw [h2]
  intro j hj
  obtain ⟨y, hy, rfl⟩ := Finset.mem_map.mp hj
  exact key hy

omit [FloatOps F] in
/-- Reading the range whole reads its contents, -/
theorem read_range (f : S62720.Idx → F .f32) : (sC.access (.whole S62720)).read (Elt F) f = f := by
  funext j
  rw [View.read_apply]
  have hj : (sC.access (.whole S62720)).emb j = j := Rect.emb_whole_apply S62720 j
  rw [hj]; rfl
omit [FloatOps F] in
/-- and writing it whole leaves what was written. -/
theorem write_range (f w : S62720.Idx → F .f32) : (sC.access (.whole S62720)).write (Elt F) f w Finset.univ = w := by
  funext j
  have hj : (sC.access (.whole S62720)).emb j = j := Rect.emb_whole_apply S62720 j
  have h := View.write_emb_of_mem (v := sC.access (.whole S62720)) (Val := Elt F) f w (Finset.mem_univ j)
  rw [hj] at h
  exact h.trans rfl

omit [FloatOps F] in
/-- Its elements are all the buffer's. -/
theorem set_range : (sC.access (.whole S62720)).set = Finset.univ := by
  ext j
  simp only [Finset.mem_univ, iff_true]
  have hj : (sC.access (.whole S62720)).emb j = j := Rect.emb_whole_apply S62720 j
  have h := View.emb_mem_set (sC.access (.whole S62720)) j
  rw [hj] at h
  exact h

/-- One trip of a scan takes its invariant on. -/
theorem scan_trip (r : Fin 8) (g : S65536.Idx → BitVec 32) (A : Nat → Prop) (n : Nat) (hn : n = 512) (off : Fin n → Fin 1 → Nat)
    (inb : ∀ t a, off t a + S16.size a ≤ S65536.size a) (hoff : ∀ t, off t = ![rot L r.val + 16 * t.val])
    (chk : IVec S16 32 → Prop) (dec : ∀ v, Decidable (chk v))
    (hin : ∀ v, chk v → ∀ a x, ((![v] : Fin 1 → IVec S16 32) a x).toNat < S62720.size a)
    (hchk : ∀ v : IVec S16 32, (∀ a x, ((![v] : Fin 1 → IVec S16 32) a x).toNat < S62720.size a) → chk v)
    (t : Fin n) (u : Unit) :
    scanInv (F := F) d L r g A t.val u
      ⊢ wp frame (wpE (defs₀ (F := F)) 𝒱₀ (tV d L) none) Set.univ
          (scanBody (F := F) L n off inb chk dec hin (baseW L) (k0_pay8 (F := F)) t u) (scanInv (F := F) d L r g A (t.val + 1)) := by
  have ht : t.val < 512 := hn ▸ t.isLt
  unfold scanInv scanBody
  simp only [Prog.bind_lift, Prog.pure_eq_ret]
  iintro ⟨Hi, Hc⟩
  have hS := trip_sub L r t.val ht (off t) (inb t) (hoff t)
  iapply (wp_load 𝒱₀ (tV d L) none Set.univ (m := sI) (r := (Rect.unit (s := S65536) (off t) S16.size (inb t)).toLoadRect) hS) $$ Hi; iintro Hi
  have hv : ∀ x, View.readAt (Elt F) sI.view (Rect.unit (s := S65536) (off t) S16.size (inb t)).toLoadRect g x
      = g ((Rect.unit (s := S65536) (off t) S16.size (inb t)).toLoadRect.idx x) := fun x => by
    simp only [View.readAt_apply, Memref.view_whole, View.read_whole]
  generalize View.readAt (Elt F) sI.view (Rect.unit (s := S65536) (off t) S16.size (inb t)).toLoadRect g = v at hv ⊢
  rw [wp_assume_of _ _ _ _ (hchk _ (laneIx_lt (baseW L) _))]
  iapply (SparseCore.wp_vectorStoreIdx 𝒱₀ (tV d L) none Set.univ (base := sC)
    (f := marks zeroF oneF (baseW L) g (fun n => A n ∨ (rot L r.val ≤ n ∧ n < rot L r.val + 16 * t.val)))) $$ [Hc]
  · rw [set_range]; iexact Hc
  iintro Hc
  rw [wp_ret]
  imodintro
  isplitl [Hi]; · iexact Hi
  rw [set_range, write_range, read_range]
  have hst := marks_step (F := F) zeroF oneF (baseW L) g (fun n => A n ∨ (rot L r.val ≤ n ∧ n < rot L r.val + 16 * t.val))
    (rot L r.val + 16 * t.val) v (fun x => (Rect.unit (s := S65536) (off t) S16.size (inb t)).toLoadRect.idx x)
    (fun x => by
      rw [LoadRect.idx_apply]
      show off t 0 + 1 * (x 0).val = _
      rw [hoff, Nat.one_mul]; rfl) hv (laneIx_lt _ _)
  have hcg := marks_congr (α := F .f32) zeroF oneF (baseW L) g
    (A := fun n => (A n ∨ (rot L r.val ≤ n ∧ n < rot L r.val + 16 * t.val)) ∨ (rot L r.val + 16 * t.val ≤ n ∧ n < rot L r.val + 16 * t.val + 16))
    (B := fun n => A n ∨ (rot L r.val ≤ n ∧ n < rot L r.val + 16 * (t.val + 1)))
    (fun x _ => by
      rw [or_assoc]
      refine or_congr_right ?_
      omega)
  rw [← hcg, ← hst]
  iexact Hc

/-- A scan at the head of a program: from the chunk at its words and the range marked by `A`, the rest
    runs with the chunk's positions marked too. -/
theorem scan_loop (r : Fin 8) (g : S65536.Idx → BitVec 32) (A : Nat → Prop) (l : Scf.Loop 32) (hok : l.OK) (hl : l.trips = 512)
    (off : Fin l.trips → Fin 1 → Nat) (inb : ∀ t a, off t a + S16.size a ≤ S65536.size a) (hoff : ∀ t, off t = ![rot L r.val + 16 * t.val])
    (chk : IVec S16 32 → Prop) (dec : ∀ v, Decidable (chk v))
    (hin : ∀ v, chk v → ∀ a x, ((![v] : Fin 1 → IVec S16 32) a x).toNat < S62720.size a)
    (hchk : ∀ v : IVec S16 32, (∀ a x, ((![v] : Fin 1 → IVec S16 32) a x).toNat < S62720.size a) → chk v)
    {β : Type} {kk : Unit → Prog (TpuEff nD τ sig (Elt F) Λ₀ (.scVector ((L 0).castLE hcore0) ((L 1).castLE hsub0))) β} {Q : β → sProp 𝕄} :
    iprop(ckPts (F := F) d L r g ∗ rgPts d L (marks zeroF oneF (baseW L) g A))
      ⊢ iprop((iprop(ckPts (F := F) d L r g ∗ rgPts d L (marks zeroF oneF (baseW L) g (fun n => A n ∨ (rot L r.val ≤ n ∧ n < rot L r.val + 8192))))
          -∗ wp frame (wpE (defs₀ (F := F)) 𝒱₀ (tV d L) none) Set.univ (kk ()) Q)
        -∗ wp frame (wpE (defs₀ (F := F)) 𝒱₀ (tV d L) none) Set.univ
          (Scf.Loop.for l hok () (scanBody (F := F) L l.trips off inb chk dec hin (baseW L) (k0_pay8 (F := F))) >>= kk) Q) := by
  refine BI.Entails.trans ?_ ((Scf.wp_for_bind frame (wpE (defs₀ (F := F)) 𝒱₀ (tV d L) none) Set.univ l.lb l.ub l.st hok ()
    (scanBody (F := F) L l.trips off inb chk dec hin (baseW L) (k0_pay8 (F := F))) (scanInv (F := F) d L r g A)
    (fun t u => scan_trip d L r g A l.trips hl off inb hoff chk dec hin hchk t u)).trans (wand_mono_left (forall_intro fun u => ?_)))
  · unfold scanInv
    rw [marks_congr (α := F .f32) zeroF oneF (baseW L) g (A := A) (B := fun n => A n ∨ (rot L r.val ≤ n ∧ n < rot L r.val + 16 * 0))
      (fun x _ => by
        constructor
        · exact Or.inl
        · rintro (h | h)
          · exact h
          · omega)]
    exact BI.Entails.refl _
  · change _ ⊢ iprop(scanInv (F := F) d L r g A l.trips () -∗ _)
    rw [hl]
    unfold scanInv
    exact BI.Entails.refl _

/-! ## The zeros -/

/-- The zero loop's invariant: the range's first `16 * t` elements are zero. -/
def zeroInv (t : Nat) (_ : Unit) : sProp 𝕄 :=
  iprop(∃ f : S62720.Idx → F .f32, ⌜∀ p : S62720.Idx, (p 0).val < 16 * t → f p = zeroF⌝ ∗ rgPts d L f)

/-- Sixteen zeros stored at `16 * t`: what was zero stays, and the sixteen are. -/
theorem zero_store (t : Nat) (off : Fin 1 → Nat) (inb : ∀ a, off a + S16.size a ≤ S62720.size a) (hoff : off = ![16 * t])
    (f : S62720.Idx → F .f32) (hf : ∀ p : S62720.Idx, (p 0).val < 16 * t → f p = zeroF) (p : S62720.Idx) (hp : (p 0).val < 16 * (t + 1)) :
    (sC.access (Rect.unit (s := S62720) off S16.size inb)).write (Elt F) f (k0_pay7 (F := F)) Finset.univ p = zeroF := by
  subst hoff
  by_cases hlt : (p 0).val < 16 * t
  · rw [View.write_of_not_mem, hf p hlt]
    intro hm
    obtain ⟨x, -, rfl⟩ := Finset.mem_map.mp hm
    have e : ((sC.access (Rect.unit (s := S62720) ![16 * t] S16.size inb)).emb x (0 : Fin 1)).val = 16 * t + 1 * (x (0 : Fin 1)).val := rfl
    rw [e] at hlt
    omega
  · have hlt' : (p 0).val - 16 * t < 16 := by omega
    have hj : (sC.access (Rect.unit (s := S62720) ![16 * t] S16.size inb)).emb (lane ⟨(p 0).val - 16 * t, hlt'⟩) = p :=
      idx1_ext (n := 62720) (by
        show 16 * t + 1 * ((p 0).val - 16 * t) = (p 0).val
        omega)
    have h := View.write_emb_of_mem (v := sC.access (Rect.unit (s := S62720) ![16 * t] S16.size inb)) (Val := Elt F) f (k0_pay7 (F := F))
      (Finset.mem_univ (lane ⟨(p 0).val - 16 * t, hlt'⟩))
    rw [hj] at h
    exact h.trans rfl

/-- The printed zero loop at the head of a program: from the range at any contents the rest runs with it
    all zero. -/
theorem zero_loop (body : Fin k0_t1_loop.trips → Unit → Prog (TpuEff nD τ sig (Elt F) Λ₀ (.scVector ((L 0).castLE hcore0) ((L 1).castLE hsub0))) Unit)
    (hb : body = fun t _ => do
      let _v : Vec F S16 .f32 ← Prog.lift (.load sC (Rect.unit (s := S62720) (k0_off2 t) S16.size (k0_off2_inb t)).toLoadRect (View.loadsAt_vmem h_S16))
      Prog.lift (.store sC (Rect.unit (s := S62720) (k0_off2 t) S16.size (k0_off2_inb t)) (k0_pay7 (F := F)) Finset.univ (View.stores_vmem_bits_univ h_S16 rfl) (.inl rfl))
      pure ⟨⟩)
    (f : S62720.Idx → F .f32) (g : S65536.Idx → BitVec 32)
    {β : Type} {kk : Unit → Prog (TpuEff nD τ sig (Elt F) Λ₀ (.scVector ((L 0).castLE hcore0) ((L 1).castLE hsub0))) β} {Q : β → sProp 𝕄} :
    rgPts (F := F) d L f
      ⊢ iprop((rgPts d L (marks zeroF oneF (baseW L) g (fun _ => False)) -∗ wp frame (wpE (defs₀ (F := F)) 𝒱₀ (tV d L) none) Set.univ (kk ()) Q)
        -∗ wp frame (wpE (defs₀ (F := F)) 𝒱₀ (tV d L) none) Set.univ (Scf.Loop.for k0_t1_loop k0_t1_ok () body >>= kk) Q) := by
  subst hb
  refine BI.Entails.trans ?_ ((Scf.wp_for_bind frame (wpE (defs₀ (F := F)) 𝒱₀ (tV d L) none) Set.univ k0_t1_loop.lb k0_t1_loop.ub k0_t1_loop.st k0_t1_ok ()
    _ (zeroInv (F := F) d L) (fun t u => ?_)).trans (wand_mono_left (forall_intro fun u => ?_)))
  · change _ ⊢ zeroInv (F := F) d L 0 ()
    unfold zeroInv
    iintro H
    iexists f
    isplitr
    · ipureintro; intro p hp; omega
    · iexact H
  · change zeroInv (F := F) d L t.val u ⊢ wp _ _ _ _ (zeroInv (F := F) d L (t.val + 1))
    unfold zeroInv
    simp only [Prog.bind_lift, Prog.pure_eq_ret]
    iintro ⟨%f, %hf, H⟩
    iapply (wp_load 𝒱₀ (tV d L) none Set.univ (m := sC) (S := Finset.univ) (Finset.subset_univ _)) $$ H; iintro H
    iapply (wp_store 𝒱₀ (tV d L) none Set.univ (m := sC) (r := Rect.unit (s := S62720) (k0_off2 t) S16.size (k0_off2_inb t))
      (Mk := Finset.univ) (S := Finset.univ) (Finset.subset_univ _)) $$ H; iintro H
    rw [wp_ret]
    imodintro
    iexists _
    isplitr
    rotate_left
    · iexact H
    · ipureintro
      exact zero_store t.val _ _ (k0_off2_eq t) f hf
  · change _ ⊢ iprop(zeroInv (F := F) d L k0_t1_loop.trips () -∗ _)
    rw [show k0_t1_loop.trips = 3920 from by decide +kernel]
    iintro HK HI
    unfold zeroInv
    icases HI with ⟨%f, %hf, H⟩
    iapply HK
    rw [marks_none, show f = fun _ => zeroF from funext fun p => hf p (by have h : (p 0).val < 62720 := (p 0).isLt; omega)]
    iexact H

end Cert.Proof.Ones
-- ==== Proof.Tile.lean ====
/- One tile of the scatter kernel: its eight copies of the index words in flight while it zeroes its
   range, the scan of each chunk as it lands, and the range written out by four copies. -/
module

public import proofs.«01_k».proof.Proof.Scan

@[expose] public section

noncomputable section

namespace Cert.Proof.Ones

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ)

/-- The index words (an argument) and the result, as locations of device `d`. -/
abbrev iLoc (d : Dev nD) : Loc nD τ sig := (SparseCore.T d).loc main_arg2
abbrev oLoc (d : Dev nD) : Loc nD τ sig := (SparseCore.T d).loc main_v0

/-- The index words at launch. -/
abbrev words (d : Dev nD) : S65536.Idx → BitVec 32 := m (iLoc d)

variable [FloatOps F]

open Classical in
/-- The result: one where some index word points, zero elsewhere. -/
def ones (g : S65536.Idx → BitVec 32) : S1000000.Idx → F .f32 :=
  fun x => if ∃ j : S65536.Idx, (g j).toNat = (x 0).val then oneF else zeroF

/-- Tile `w`'s part of the result. -/
def part (w : Nat) : Finset S1000000.Idx := Finset.univ.filter fun x => 62720 * w ≤ (x 0).val ∧ (x 0).val < 62720 * (w + 1)

variable (d : Dev nD) (L : grid0.Coords)

/-! ## The tile's own semaphores and buffers -/

/-- The tile's sixteen copy semaphores: eight for the copies in, four and four for the copies out. -/
def semOf : Fin 16 → DmaSem sig := ![cc0_scratch2.sem, cc0_scratch3.sem, cc0_scratch4.sem, cc0_scratch5.sem, cc0_scratch6.sem,
  cc0_scratch7.sem, cc0_scratch8.sem, cc0_scratch9.sem, cc0_scratch10.sem, cc0_scratch11.sem, cc0_scratch12.sem, cc0_scratch13.sem,
  cc0_scratch14.sem, cc0_scratch15.sem, cc0_scratch16.sem, cc0_scratch17.sem]

theorem semOf_injective : Function.Injective semOf := by decide

theorem semOf_scoped : ∀ k, (SemLoc.dma (semOf k) : SemLoc sig).isScoped .scVector = true := by decide

/-- The cells of those semaphores. -/
def cellEmb : Fin 16 ↪ GSem nD τ sig :=
  ⟨fun k => (tV d L, .dma (semOf k)), fun a b h => semOf_injective (by
    have h2 := (Prod.mk.inj h).2
    exact SemLoc.dma.inj h2)⟩

omit [FloatOps F] in
/-- The tile's own cells are those sixteen at zero, and the rest. -/
theorem ownSems0_V :
    (ownSems0 (tV d L) : sProp 𝕄)
      = iprop((bigSep Finset.univ fun k : Fin 16 => semVal (tV d L, .dma (semOf k)) 0)
          ∗ bigSep (ownCells (tV d L) \ Finset.univ.map (cellEmb d L)) fun g => semVal g 0) := by
  have hsub : Finset.univ.map (cellEmb d L) ⊆ ownCells (tV d L) := by
    intro g hg
    obtain ⟨k, -, rfl⟩ := Finset.mem_map.mp hg
    exact mem_ownCells.mpr ⟨rfl, semOf_scoped k⟩
  unfold SparseCore.Cfg.ownSems0
  conv_lhs => rw [← Finset.union_sdiff_of_subset hsub]
  rw [bigSep_union Finset.disjoint_sdiff, bigSep_map]
  rfl

omit [FloatOps F] in
/-- The tile's two buffers are among its own. -/
theorem ownBufs_V :
    (ownBufs (tV d L) : sProp 𝕄)
      = iprop((∃ f, (tV d L).loc cc0_scratch0 ↦{fullShare} f) ∗ (∃ f, (tV d L).loc cc0_scratch1 ↦{fullShare} f)
          ∗ bigSep (((ownRefs (τ := τ) (.scVector (cV L) (jV L))).erase ((Proc.scVector (cV L) (jV L)).devRef cc0_scratch0)).erase
              ((Proc.scVector (cV L) (jV L)).devRef cc0_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩)]

/-! ## The eight chunks -/

omit [FloatOps F] in
theorem mem_ck (r : Fin 8) (x : S65536.Idx) : x ∈ (ck L r).set ↔ rotOf L (x 0).val = r.val := by
  rw [Rect.mem_set_unit, ← mem_chunk_iff L r.val (x 0).val r.isLt (x 0).isLt, off1_eq]
  constructor
  · intro h; exact h 0
  · intro h a
    obtain rfl : a = 0 := Subsingleton.elim _ _
    exact h

omit [FloatOps F] in
theorem ck_disjoint : ∀ r ∈ (Finset.univ : Finset (Fin 8)), ∀ r' ∈ (Finset.univ : Finset (Fin 8)), r ≠ r' → Disjoint (ck L r).set (ck L r').set := by
  intro r _ r' _ hne
  rw [Finset.disjoint_left]
  intro x hx hx'
  rw [mem_ck] at hx hx'
  exact hne (Fin.ext (hx.symm.trans hx'))

omit [FloatOps F] in
theorem ck_cover : (Finset.univ : Finset (Fin 8)).biUnion (fun r => (ck L r).set) = (Finset.univ : Finset S65536.Idx) := by
  ext x
  simp only [Finset.mem_biUnion, Finset.mem_univ, _root_.true_and, iff_true]
  exact ⟨⟨rotOf L (x 0).val, Nat.mod_lt _ (by decide)⟩, (mem_ck L _ x).mpr rfl⟩

omit [FloatOps F] in
/-- Eight conjuncts, in order. -/
theorem bigSep_eight (Φ : Fin 8 → sProp 𝕄) :
    bigSep Finset.univ Φ = iprop(Φ 0 ∗ Φ 1 ∗ Φ 2 ∗ Φ 3 ∗ Φ 4 ∗ Φ 5 ∗ Φ 6 ∗ Φ 7) :=
  bigSep_univ_eq_bigSepL [0, 1, 2, 3, 4, 5, 6, 7] (by decide) (by decide) Φ

omit [FloatOps F] in
/-- Sixteen conjuncts, in order. -/
theorem bigSep_sixteen (Φ : Fin 16 → sProp 𝕄) :
    bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15) :=
  bigSep_univ_eq_bigSepL [0, 1, 2, 3, 4, 5, 6, 7, 8, 9, 10, 11, 12, 13, 14, 15] (by decide) (by decide) Φ

/-- Chunk `r` of the index words in HBM, at a share. -/
abbrev inPts (q : PosShare TreeShare) (r : Fin 8) (g : S65536.Idx → BitVec 32) : sProp 𝕄 :=
  (iV.slice (ck L r) (fun _ => rfl)).view.loc (tV d L) ↦[(iV.slice (ck L r) (fun _ => rfl)).view.set]{q} g

omit [FloatOps F] in
/-- The index words in HBM are their eight chunks, -/
theorem split_in (q : PosShare TreeShare) (g : S65536.Idx → BitVec 32) :
    ((iLoc d ↦{q} g : sProp 𝕄)) = bigSep Finset.univ fun r : Fin 8 => inPts (F := F) d L q r g := by
  have h : (_ : sProp 𝕄) = _ := pointsTo_biUnion (ℓ := iLoc d) (q := q) (f := g) Finset.univ (fun r : Fin 8 => (ck L r).set) (ck_disjoint L)
  rw [ck_cover] at h
  refine h.trans (bigSep_congr fun r _ => ?_)
  unfold inPts
  rw [show (iV.slice (ck L r) (fun _ => rfl)).view.set = (ck L r).set from View.set_slice_whole main_arg2_scv (ck L r)]

omit [FloatOps F] in
/-- and the tile's copy of them is its eight chunks. -/
theorem split_copy (g : S65536.Idx → BitVec 32) :
    (((tV d L).loc cc0_scratch0 ↦{fullShare} g : sProp 𝕄)) = bigSep Finset.univ fun r : Fin 8 => ckPts (F := F) d L r g := by
  have h : (_ : sProp 𝕄) = _ := pointsTo_biUnion (ℓ := (tV d L).loc cc0_scratch0) (q := fullShare) (f := g) Finset.univ (fun r : Fin 8 => (ck L r).set) (ck_disjoint L)
  rw [ck_cover] at h
  refine h.trans (bigSep_congr fun r _ => ?_)
  unfold ckPts
  rw [show (sI.slice (ck L r) (fun _ => rfl)).view.set = (ck L r).set from View.set_slice_whole cc0_scratch0 (ck L r)]

omit [FloatOps F] in
/-- A landed copy: a view a copy has filled holds any contents that read there as what was copied. -/
theorem landed {sp : Space} {s : Shape} {e : EltTy} {c : Thread nD τ} (v : View sig c.2.kind sp s e) (q : PosShare TreeShare)
    (f : Buf (Elt F) (v.loc c)) (w : s.Idx → Elt F e) (G : Buf (Elt F) (v.loc c)) (h : v.read (Elt F) G = w) :
    (v.loc c ↦[v.set]{q} v.writes (Elt F) f [⟨Rect.whole s, w⟩] : sProp 𝕄) = v.loc c ↦[v.set]{q} G := by
  refine pointsTo_congr fun j hj => ?_
  obtain ⟨x, -, rfl⟩ := Finset.mem_map.mp hj
  have h1 : v.read (Elt F) (v.writes (Elt F) f [⟨Rect.whole s, w⟩]) x = w x := by
    have h2 := View.read_writes_cons_emb v f (Rect.whole s) w [] x
    rwa [Rect.emb_whole_apply] at h2
  rw [← h, View.read_apply, View.read_apply] at h1
  rw [← h]
  exact (Equiv.cast (congrArg (Elt F) v.elt_eq)).injective h1

/-! ## The eight printed scan loops are one

    Their trips differ only in the chunk's offset and in the name of the check of the lanes' indices. -/

section Bodies

variable (hi : iV.IsWhole) (ho : oV.IsWhole) (hs : sI.IsWhole) (hc : sC.IsWhole)
variable (s₀ s₁ s₂ s₃ s₄ s₅ s₆ s₇ s₈ s₉ s₁₀ s₁₁ s₁₂ s₁₃ s₁₄ s₁₅ : DmaSems sig S_) (b b₁ b₂ b₃ b₄ b₅ b₆ c₀ : BitVec 32) (v : FVec F S16 .f32)

theorem body2_eq : k0_t2_body (F := F) L iV hi oV ho sI hs sC hc s₀ s₁ s₂ s₃ s₄ s₅ s₆ s₇ s₈ s₉ s₁₀ s₁₁ s₁₂ s₁₃ s₁₄ s₁₅ b b₁ b₂ b₃ b₄ b₅ b₆ v c₀
    = scanBody L k0_t2_loop.trips (k0_off3 L) (k0_off3_inb L) k0_chk1 k0_chk1.dec k0_idx1_inb b v := rfl
theorem body3_eq : k0_t3_body (F := F) L iV hi oV ho sI hs sC hc s₀ s₁ s₂ s₃ s₄ s₅ s₆ s₇ s₈ s₉ s₁₀ s₁₁ s₁₂ s₁₃ s₁₄ s₁₅ b b₁ b₂ b₃ b₄ b₅ b₆ v c₀
    = scanBody L k0_t3_loop.trips (k0_off4 L) (k0_off4_inb L) k0_chk2 k0_chk2.dec k0_idx2_inb b v := rfl
theorem body4_eq : k0_t4_body (F := F) L iV hi oV ho sI hs sC hc s₀ s₁ s₂ s₃ s₄ s₅ s₆ s₇ s₈ s₉ s₁₀ s₁₁ s₁₂ s₁₃ s₁₄ s₁₅ b b₁ b₂ b₃ b₄ b₅ b₆ v c₀
    = scanBody L k0_t4_loop.trips (k0_off5 L) (k0_off5_inb L) k0_chk3 k0_chk3.dec k0_idx3_inb b v := rfl
theorem body5_eq : k0_t5_body (F := F) L iV hi oV ho sI hs sC hc s₀ s₁ s₂ s₃ s₄ s₅ s₆ s₇ s₈ s₉ s₁₀ s₁₁ s₁₂ s₁₃ s₁₄ s₁₅ b b₁ b₂ b₃ b₄ b₅ b₆ v c₀
    = scanBody L k0_t5_loop.trips (k0_off6 L) (k0_off6_inb L) k0_chk4 k0_chk4.dec k0_idx4_inb b v := rfl
theorem body6_eq : k0_t6_body (F := F) L iV hi oV ho sI hs sC hc s₀ s₁ s₂ s₃ s₄ s₅ s₆ s₇ s₈ s₉ s₁₀ s₁₁ s₁₂ s₁₃ s₁₄ s₁₅ b b₁ b₂ b₃ b₄ b₅ b₆ v c₀
    = scanBody L k0_t6_loop.trips (k0_off7 L) (k0_off7_inb L) k0_chk5 k0_chk5.dec k0_idx5_inb b v := rfl
theorem body7_eq : k0_t7_body (F := F) L iV hi oV ho sI hs sC hc s₀ s₁ s₂ s₃ s₄ s₅ s₆ s₇ s₈ s₉ s₁₀ s₁₁ s₁₂ s₁₃ s₁₄ s₁₅ b b₁ b₂ b₃ b₄ b₅ b₆ v c₀
    = scanBody L k0_t7_loop.trips (k0_off8 L) (k0_off8_inb L) k0_chk6 k0_chk6.dec k0_idx6_inb b v := rfl
theorem body8_eq : k0_t8_body (F := F) L iV hi oV ho sI hs sC hc s₀ s₁ s₂ s₃ s₄ s₅ s₆ s₇ s₈ s₉ s₁₀ s₁₁ s₁₂ s₁₃ s₁₄ s₁₅ b v
    = scanBody L k0_t8_loop.trips (k0_off9 L) (k0_off9_inb L) k0_chk7 k0_chk7.dec k0_idx7_inb b v := rfl
theorem body9_eq : k0_t9_body (F := F) L iV hi oV ho sI hs sC hc s₀ s₁ s₂ s₃ s₄ s₅ s₆ s₇ s₈ s₉ s₁₀ s₁₁ s₁₂ s₁₃ s₁₄ s₁₅ b v
    = scanBody L k0_t9_loop.trips (k0_off10 L) (k0_off10_inb L) k0_chk8 k0_chk8.dec k0_idx8_inb b v := rfl

end Bodies

/-- The scan of a chunk that a copy has just filled. -/
theorem scan_landed (r : Fin 8) (f : Buf (Elt F) ((sI.slice (ck L r) (fun _ => rfl)).view.loc (tV d L))) (g : S65536.Idx → BitVec 32)
    (w : (ck L r).shape.Idx → BitVec 32) (hw : (iV.slice (ck L r) (fun _ => rfl)).view.read (Elt F) g = w)
    (A : Nat → Prop) (l : Scf.Loop 32) (hok : l.OK) (hl : l.trips = 512)
    (off : Fin l.trips → Fin 1 → Nat) (inb : ∀ t a, off t a + S16.size a ≤ S65536.size a) (hoff : ∀ t, off t = ![rot L r.val + 16 * t.val])
    (chk : IVec S16 32 → Prop) (dec : ∀ v, Decidable (chk v))
    (hin : ∀ v, chk v → ∀ a x, ((![v] : Fin 1 → IVec S16 32) a x).toNat < S62720.size a)
    (hchk : ∀ v : IVec S16 32, (∀ a x, ((![v] : Fin 1 → IVec S16 32) a x).toNat < S62720.size a) → chk v)
    {β : Type} {kk : Unit → Prog (TpuEff nD τ sig (Elt F) Λ₀ (.scVector ((L 0).castLE hcore0) ((L 1).castLE hsub0))) β} {Q : β → sProp 𝕄} :
    ((sI.slice (ck L r) (fun _ => rfl)).view.loc (tV d L) ↦[(sI.slice (ck L r) (fun _ => rfl)).view.set]{fullShare}
        (sI.slice (ck L r) (fun _ => rfl)).view.writes (Elt F) f [⟨Rect.whole (ck L r).shape, w⟩] : sProp 𝕄)
      ⊢ iprop(rgPts d L (marks zeroF oneF (baseW L) g A)
        -∗ (iprop(ckPts (F := F) d L r g ∗ rgPts d L (marks zeroF oneF (baseW L) g (fun n => A n ∨ (rot L r.val ≤ n ∧ n < rot L r.val + 8192))))
          -∗ wp frame (wpE (defs₀ (F := F)) 𝒱₀ (tV d L) none) Set.univ (kk ()) Q)
        -∗ wp frame (wpE (defs₀ (F := F)) 𝒱₀ (tV d L) none) Set.univ
          (Scf.Loop.for l hok () (scanBody (F := F) L l.trips off inb chk dec hin (baseW L) (k0_pay8 (F := F))) >>= kk) Q) := by
  rw [landed (F := F) (c := tV d L) (sI.slice (ck L r) (fun _ => rfl)).view fullShare f w g hw]
  change _ ⊢ _
  iintro Hs Hc
  iapply (scan_loop (F := F) d L r g A l hok hl off inb hoff chk dec hin hchk) $$ [Hs Hc]
  isplitl [Hs]
  · iexact Hs
  · iexact Hc

/-! ## The four copies out

    A tile below the last copies its whole range in four pieces of 15680 words; the last tile copies
    the first 59200 words of its own in four pieces of 14800. -/

omit [FloatOps F] in
/-- A location's elements at positions `lo` to `lo + 4 n` are four pieces of `n`. -/
theorem split_four {ℓ : Loc nD τ sig} (q : PosShare TreeShare) (f : Buf (Elt F) ℓ) (S : Finset (Idx ℓ)) (C : Fin 4 → Finset (Idx ℓ))
    (pos : Idx ℓ → Nat) (lo n : Nat) (hC : ∀ r x, x ∈ C r ↔ lo + n * r.val ≤ pos x ∧ pos x < lo + n * r.val + n)
    (hS : ∀ x, x ∈ S ↔ lo ≤ pos x ∧ pos x < lo + 4 * n) :
    (ℓ ↦[S]{q} f : sProp 𝕄) = iprop((ℓ ↦[C 0]{q} f) ∗ (ℓ ↦[C 1]{q} f) ∗ (ℓ ↦[C 2]{q} f) ∗ ℓ ↦[C 3]{q} f) := by
  have hd : ∀ r ∈ (Finset.univ : Finset (Fin 4)), ∀ r' ∈ (Finset.univ : Finset (Fin 4)), r ≠ r' → Disjoint (C r) (C r') := by
    intro r _ r' _ hne
    rw [Finset.disjoint_left]
    intro x hx hx'
    rw [hC] at hx hx'
    refine hne (Fin.ext ?_)
    rcases Nat.lt_trichotomy r.val r'.val with h | h | h
    · have := Nat.mul_le_mul_left n (show r.val + 1 ≤ r'.val from h); rw [Nat.mul_add] at this; omega
    · exact h
    · have := Nat.mul_le_mul_left n (show r'.val + 1 ≤ r.val from h); rw [Nat.mul_add] at this; omega
  have hu : (Finset.univ : Finset (Fin 4)).biUnion C = S := by
    ext x
    simp only [Finset.mem_biUnion, Finset.mem_univ, _root_.true_and]
    rw [hS]
    have h0 := hC 0 x
    have h1 := hC 1 x
    have h2 := hC 2 x
    have h3 := hC 3 x
    simp only [Fin.val_zero, Fin.val_one, Fin.val_two, show ((3 : Fin 4) : Nat) = 3 from rfl] at h0 h1 h2 h3
    constructor
    · rintro ⟨r, hr⟩
      have := Nat.mul_le_mul_left n (show r.val + 1 ≤ 4 from r.isLt)
      rw [Nat.mul_add] at this
      have := (hC r x).mp hr
      omega
    · intro hx
      by_cases ha : pos x < lo + n
      · exact ⟨0, h0.mpr (by omega)⟩
      by_cases hb : pos x < lo + 2 * n
      · exact ⟨1, h1.mpr (by omega)⟩
      by_cases hc : pos x < lo + 3 * n
      · exact ⟨2, h2.mpr (by omega)⟩
      · exact ⟨3, h3.mpr (by omega)⟩
  have h : (_ : sProp 𝕄) = _ := pointsTo_biUnion (ℓ := ℓ) (q := q) (f := f) Finset.univ C hd
  rw [hu] at h
  exact h.trans (bigSep_univ_eq_bigSepL [0, 1, 2, 3] (by decide) (by decide) _)

section Out

variable (n : Nat) (o : Fin 4 → Nat) (hb : ∀ r a, (![o r] : Fin 1 → Nat) a + (![n] : Fin 1 → Nat) a ≤ S62720.size a)

/-- Piece `r` of a tile's range, -/
abbrev srcR (r : Fin 4) : Rect S62720 := Rect.unit (s := S62720) ![o r] ![n] (hb r)
abbrev srcPts (r : Fin 4) (f : S62720.Idx → F .f32) : sProp 𝕄 :=
  (sC.slice (srcR n o hb r) (fun _ => rfl)).view.loc (tV d L) ↦[(sC.slice (srcR n o hb r) (fun _ => rfl)).view.set]{fullShare} f
/-- and what of the range is not copied. -/
def restR (n : Nat) : Finset S62720.Idx := Finset.univ \ Finset.univ.filter fun x => (x 0).val < 4 * n
abbrev restPts (f : S62720.Idx → F .f32) : sProp 𝕄 := (tV d L).loc cc0_scratch1 ↦[restR n]{fullShare} f

variable (off : Fin 4 → Fin 1 → Nat) (inb : ∀ r a, off r a + (![n] : Fin 1 → Nat) a ≤ S1000000.size a)

/-- Piece `r` of a tile's part of the result. -/
abbrev dstR (r : Fin 4) : Rect S1000000 := Rect.unit (s := S1000000) (off r) ![n] (inb r)
abbrev dstPts (r : Fin 4) (f : S1000000.Idx → F .f32) : sProp 𝕄 :=
  (oV.slice (dstR n off inb r) (fun _ => rfl)).view.loc (tV d L) ↦[(oV.slice (dstR n off inb r) (fun _ => rfl)).view.set]{fullShare} f

omit [FloatOps F] in
theorem split_range (ho : ∀ r, o r = n * r.val) (f : S62720.Idx → F .f32) :
    (rgPts d L f : sProp 𝕄) = iprop((srcPts d L n o hb 0 f ∗ srcPts d L n o hb 1 f ∗ srcPts d L n o hb 2 f ∗ srcPts d L n o hb 3 f) ∗ restPts d L n f) := by
  have h1 : (rgPts d L f : sProp 𝕄) = iprop(((tV d L).loc cc0_scratch1 ↦[Finset.univ.filter fun x : S62720.Idx => (x 0).val < 4 * n]{fullShare} f) ∗ restPts d L n f) :=
    equiv_iff.mp ⟨(pointsTo_split_subset (ℓ := (tV d L).loc cc0_scratch1) (Finset.subset_univ _)).1,
      (pointsTo_split_subset (ℓ := (tV d L).loc cc0_scratch1) (Finset.subset_univ _)).2⟩
  have h2 := split_four (F := F) (ℓ := (tV d L).loc cc0_scratch1) fullShare f (Finset.univ.filter fun x : S62720.Idx => (x 0).val < 4 * n)
    (fun r => (srcR n o hb r).set) (fun x => (x 0).val) 0 n (fun r x => by
      rw [Rect.mem_set_unit, Nat.zero_add, ho]
      exact ⟨fun h => h 0, fun h a => by obtain rfl : a = 0 := Subsingleton.elim _ _; exact h⟩) (fun x => by
      rw [Finset.mem_filter]
      exact ⟨fun h => ⟨Nat.zero_le _, by rw [Nat.zero_add]; exact h.2⟩, fun h => ⟨Finset.mem_univ _, by rw [Nat.zero_add] at h; exact h.2⟩⟩)
  rw [h1, h2]
  unfold srcPts
  simp only [show ∀ r, (sC.slice (srcR n o hb r) (fun _ => rfl)).view.set = (srcR n o hb r).set from fun r => View.set_slice_whole cc0_scratch1 (srcR n o hb r)]

omit [FloatOps F] in
theorem split_part (hoff : ∀ r, off r = ![62720 * (L 1).val + n * r.val])
    (hp : ∀ x : S1000000.Idx, x ∈ part (L 1).val ↔ 62720 * (L 1).val ≤ (x 0).val ∧ (x 0).val < 62720 * (L 1).val + 4 * n) (f : S1000000.Idx → F .f32) :
    (oLoc d ↦[part (L 1).val]{fullShare} f : sProp 𝕄)
      = iprop(dstPts d L n off inb 0 f ∗ dstPts d L n off inb 1 f ∗ dstPts d L n off inb 2 f ∗ dstPts d L n off inb 3 f) := by
  have h2 := split_four (F := F) (ℓ := oLoc d) fullShare f (part (L 1).val)
    (fun r => (dstR n off inb r).set) (fun x => (x 0).val) (62720 * (L 1).val) n (fun r x => by
      rw [Rect.mem_set_unit, hoff]
      exact ⟨fun h => h 0, fun h a => by obtain rfl : a = 0 := Subsingleton.elim _ _; exact h⟩) hp
  rw [h2]
  unfold dstPts
  simp only [show ∀ r, (oV.slice (dstR n off inb r) (fun _ => rfl)).view.set = (dstR n off inb r).set from fun r => View.set_slice_whole main_v0_scv (dstR n off inb r)]

theorem baseW_toNat : ∀ i : grid0.Coords, (baseW i).toNat = 62720 * (i 1).val := by decide +kernel

omit [FloatOps F] in
theorem mem_part_full (hw : (L 1).val < 15) (x : S1000000.Idx) :
    x ∈ part (L 1).val ↔ 62720 * (L 1).val ≤ (x 0).val ∧ (x 0).val < 62720 * (L 1).val + 4 * 15680 := by
  unfold part
  rw [Finset.mem_filter]
  constructor
  · intro h; omega
  · intro h; exact ⟨Finset.mem_univ _, by omega⟩

omit [FloatOps F] in
theorem mem_part_last (hw : (L 1).val = 15) (x : S1000000.Idx) :
    x ∈ part (L 1).val ↔ 62720 * (L 1).val ≤ (x 0).val ∧ (x 0).val < 62720 * (L 1).val + 4 * 14800 := by
  have hx : (x 0).val < 1000000 := (x 0).isLt
  unfold part
  rw [Finset.mem_filter]
  constructor
  · intro h; omega
  · intro h; exact ⟨Finset.mem_univ _, by omega⟩

/-- The marks of all the index words on a tile's range are its part of the result. -/
theorem marks_all (g : S65536.Idx → BitVec 32) (A : Nat → Prop) (hA : ∀ x < 65536, A x) (p : S62720.Idx) (y : S1000000.Idx)
    (h : (y 0).val = 62720 * (L 1).val + (p 0).val) :
    marks (zeroF (F := F)) oneF (baseW L) g A p = ones g y := by
  unfold marks ones
  have e : (∃ j : S65536.Idx, A (j 0).val ∧ (g j - baseW L).toNat = (p 0).val) ↔ ∃ j : S65536.Idx, (g j).toNat = (y 0).val := by
    refine exists_congr fun j => ?_
    have hb := baseW_toNat L
    have hp : (p 0).val < 62720 := (p 0).isLt
    have hL : (L 1).val < 16 := (L 1).isLt
    have hg := (g j).isLt
    rw [BitVec.toNat_sub, hb, h, and_iff_right (hA _ (j 0).isLt)]
    omega
  simp only [e]

/-- A piece copied out holds the result. -/
theorem landed_out (ho : ∀ r, o r = n * r.val) (hoff : ∀ r, off r = ![62720 * (L 1).val + n * r.val]) (r : Fin 4) (g : S65536.Idx → BitVec 32) (A : Nat → Prop) (hA : ∀ x < 65536, A x)
    (f : Buf (Elt F) ((oV.slice (dstR n off inb r) (fun _ => rfl)).view.loc (tV d L))) (w : (dstR n off inb r).shape.Idx → F .f32)
    (hw : (sC.slice (srcR n o hb r) (fun _ => rfl)).view.read (Elt F) (marks (zeroF (F := F)) oneF (baseW L) g A) = w) :
    ((oV.slice (dstR n off inb r) (fun _ => rfl)).view.loc (tV d L) ↦[(oV.slice (dstR n off inb r) (fun _ => rfl)).view.set]{fullShare}
        (oV.slice (dstR n off inb r) (fun _ => rfl)).view.writes (Elt F) f [⟨Rect.whole (dstR n off inb r).shape, w⟩] : sProp 𝕄)
      = dstPts d L n off inb r (ones g) := by
  refine landed (F := F) (c := tV d L) (oV.slice (dstR n off inb r) (fun _ => rfl)).view fullShare f w (ones (F := F) g) ?_
  rw [← hw]
  funext x
  rw [View.read_apply, View.read_apply]
  refine congrArg _ (marks_all L g A hA ((sC.slice (srcR n o hb r) (fun _ => rfl)).view.emb x) ((oV.slice (dstR n off inb r) (fun _ => rfl)).view.emb x) ?_).symm
  show (off r 0 + 1 * (x 0).val) = 62720 * (L 1).val + (o r + 1 * (x 0).val)
  rw [hoff, ho]
  exact Nat.add_assoc _ _ _

end Out

theorem src_inb_full : ∀ r a, (![(![0, 15680, 31360, 47040] : Fin 4 → Nat) r] : Fin 1 → Nat) a + (![15680] : Fin 1 → Nat) a ≤ S62720.size a := by decide
theorem src_eq_full : ∀ r : Fin 4, (![0, 15680, 31360, 47040] : Fin 4 → Nat) r = 15680 * r.val := by decide
theorem src_inb_last : ∀ r a, (![(![0, 14800, 29600, 44400] : Fin 4 → Nat) r] : Fin 1 → Nat) a + (![14800] : Fin 1 → Nat) a ≤ S62720.size a := by decide
theorem src_eq_last : ∀ r : Fin 4, (![0, 14800, 29600, 44400] : Fin 4 → Nat) r = 14800 * r.val := by decide

/-- After the eight chunks every word has been seen. -/
theorem marks_seen (g : S65536.Idx → BitVec 32) :
    marks (zeroF (F := F)) oneF (baseW L) g (fun n => (((((((False ∨ (rot L (0 : Fin 8).val ≤ n ∧ n < rot L (0 : Fin 8).val + 8192)) ∨ (rot L (1 : Fin 8).val ≤ n ∧ n < rot L (1 : Fin 8).val + 8192))
        ∨ (rot L (2 : Fin 8).val ≤ n ∧ n < rot L (2 : Fin 8).val + 8192)) ∨ (rot L (3 : Fin 8).val ≤ n ∧ n < rot L (3 : Fin 8).val + 8192)) ∨ (rot L (4 : Fin 8).val ≤ n ∧ n < rot L (4 : Fin 8).val + 8192))
        ∨ (rot L (5 : Fin 8).val ≤ n ∧ n < rot L (5 : Fin 8).val + 8192)) ∨ (rot L (6 : Fin 8).val ≤ n ∧ n < rot L (6 : Fin 8).val + 8192)) ∨ (rot L (7 : Fin 8).val ≤ n ∧ n < rot L (7 : Fin 8).val + 8192))
      = marks zeroF oneF (baseW L) g (fun _ => True) := by
  refine marks_congr _ _ _ _ fun x hx => ⟨fun _ => trivial, fun _ => ?_⟩
  have hr : rotOf L x < 8 := Nat.mod_lt _ (by decide)
  have h := (mem_chunk_iff L (rotOf L x) x hr hx).mpr rfl
  generalize rotOf L x = r at h hr
  have h8 : r = 0 ∨ r = 1 ∨ r = 2 ∨ r = 3 ∨ r = 4 ∨ r = 5 ∨ r = 6 ∨ r = 7 := by omega
  rcases h8 with rfl | rfl | rfl | rfl | rfl | rfl | rfl | rfl
  · exact .inl (.inl (.inl (.inl (.inl (.inl (.inl (.inr h)))))))
  · exact .inl (.inl (.inl (.inl (.inl (.inl (.inr h))))))
  · exact .inl (.inl (.inl (.inl (.inl (.inr h)))))
  · exact .inl (.inl (.inl (.inl (.inr h))))
  · exact .inl (.inl (.inl (.inr h)))
  · exact .inl (.inl (.inr h))
  · exact .inl (.inr h)
  · exact .inr h

theorem cond_iff : ∀ i : grid0.Coords, (k0_cond1 i = 1#1 ↔ (i 1).val < 15) ∧ (k0_cond2 i = 1#1 ↔ (i 1).val = 15) := by decide +kernel

/-- What a tile takes: its share of the index words and its part of the result; -/
abbrev goT (q : PosShare TreeShare) : sProp 𝕄 := iprop((iLoc d ↦{q} words m d) ∗ oLoc d ↦[part (L 1).val]{fullShare} m (oLoc d))
/-- and what it brings back: the part at the marks of the index words. -/
abbrev tdT (q : PosShare TreeShare) : sProp 𝕄 := iprop((iLoc d ↦{q} words m d) ∗ oLoc d ↦[part (L 1).val]{fullShare} ones (F := F) (words m d))

omit [FloatOps F] in
/-- A wait at no rank adds nothing that the launch counts. -/
theorem waits_insert {W W' : Waits sig (HIx 1)} {s : SemLoc sig} (h : ∀ p ∈ W', p ∈ W ∨ p.2 = none) :
    ∀ p ∈ insert (s, (default : HIx 1)) W', p ∈ W ∨ p.2 = none := by
  intro p hp
  rcases Finset.mem_insert.mp hp with rfl | hp
  · exact .inr rfl
  · exact h p hp

set_option maxRecDepth 65536 in
/-- A tile, given its share of the index words and its part of the result, leaves the part at the
    marks of the index words. -/
theorem tile_body (hF : (K (F := F)).Facts) (q : PosShare TreeShare) (O : CellTallies nD τ sig (HIx 1)) (W : Waits sig (HIx 1)) (hO : ∀ g, O g none = 0) :
    iprop(levAts (K (F := F)).L (K (F := F)).lev ∗ emp ∗ goT m d L q
        ∗ scopedBufs (tV d L) ∗ scopedSems0 (tV d L) ∗ owes (tV d L) O W)
      ⊢ wp frame (wpE (defs₀ (F := F)) 𝒱₀ (tV d L) none) Set.univ
          (cc0__scatter_ones L iV (Memref.isWhole_whole _) oV (Memref.isWhole_whole _) sI (Memref.isWhole_whole _) sC (Memref.isWhole_whole _)
            cc0_scratch2 cc0_scratch3 cc0_scratch4 cc0_scratch5 cc0_scratch6 cc0_scratch7 cc0_scratch8 cc0_scratch9 cc0_scratch10
            cc0_scratch11 cc0_scratch12 cc0_scratch13 cc0_scratch14 cc0_scratch15 cc0_scratch16 cc0_scratch17)
          fun _ => iprop(tdT m d L q ∗ scopedBufs (tV d L) ∗ scopedSems0 (tV d L) ∗ ∃ W', ⌜∀ p ∈ W', p ∈ W ∨ p.2 = none⌝ ∗ owes (tV d L) O W') := by
  rw [(K (F := F)).scopedBufs_V hF d (cV L) (jV L), SparseCore.Cfg.scopedSems0_V (Val := Elt F) d (cV L) (jV L), ownSems0_V, ownBufs_V]
  unfold goT tdT
  rw [split_in d L q, bigSep_eight, bigSep_sixteen]
  simp only [cc0__scatter_ones_eq_skeleton, cc0__scatter_ones_skel, k0_part3_eq_skeleton, k0_part4_eq_skeleton, k0_part5_eq_skeleton,
    k0_part6_eq_skeleton, k0_part7_eq_skeleton, k0_part8_eq_skeleton,  k0_part3_skel, k0_part4_skel, k0_part5_skel, k0_part6_skel, k0_part7_skel, k0_part8_skel, Prog.pure_eq_ret, Prog.bind_ret, Prog.bind_assoc,
    body2_eq, body3_eq, body4_eq, body5_eq, body6_eq, body7_eq, body8_eq, body9_eq]
  iintro ⟨#Hlv, -, ⟨⟨Hi0, Hi1, Hi2, Hi3, Hi4, Hi5, Hi6, Hi7⟩, Ho⟩, ⟨⟨%f0, Hs⟩, ⟨%c0, Hc⟩, Hbrest⟩,
    ⟨⟨Hm0, Hm1, Hm2, Hm3, Hm4, Hm5, Hm6, Hm7, Hm8, Hm9, Hm10, Hm11, Hm12, Hm13, Hm14, Hm15⟩, Hsrest⟩, HO⟩
  ihave Hmw := ((K (F := F)).mayWaits_none (thr := tV d L) hO) $$ Hlv
  ihave Hs := (Entails.of_eq ((split_copy (F := F) d L f0).trans (bigSep_eight _))) $$ Hs
  icases Hs with ⟨Hs0, Hs1, Hs2, Hs3, Hs4, Hs5, Hs6, Hs7⟩
  sl_exec (disch := exact View.amount_pos _ _ (show 0 < S8192.numel by decide))
  iapply (zero_loop (F := F) d L _ rfl c0 (words m d)) $$ Hc
  iintro Hc
  sl_exec
  iapply (scan_landed d L 0 _ (words m d) (tile_body.sl.dma0 m d L) rfl _ k0_t2_loop k0_t2_ok (by decide +kernel) (k0_off3 L) (k0_off3_inb L) (off3_eq L)
    k0_chk1 k0_chk1.dec k0_idx1_inb (fun _ h => h)) $$ Hs0 Hc
  iintro ⟨Hs0, Hc⟩
  sl_exec
  iapply (scan_landed d L 1 _ (words m d) (tile_body.sl.dma0_1 m d L) rfl _ k0_t3_loop k0_t3_ok (by decide +kernel) (k0_off4 L) (k0_off4_inb L) (off4_eq L)
    k0_chk2 k0_chk2.dec k0_idx2_inb (fun _ h => h)) $$ Hs1 Hc
  iintro ⟨Hs1, Hc⟩
  sl_exec
  iapply (scan_landed d L 2 _ (words m d) (tile_body.sl.dma0_2 m d L) rfl _ k0_t4_loop k0_t4_ok (by decide +kernel) (k0_off5 L) (k0_off5_inb L) (off5_eq L)
    k0_chk3 k0_chk3.dec k0_idx3_inb (fun _ h => h)) $$ Hs2 Hc
  iintro ⟨Hs2, Hc⟩
  sl_exec
  iapply (scan_landed d L 3 _ (words m d) (tile_body.sl.dma0_3 m d L) rfl _ k0_t5_loop k0_t5_ok (by decide +kernel) (k0_off6 L) (k0_off6_inb L) (off6_eq L)
    k0_chk4 k0_chk4.dec k0_idx4_inb (fun _ h => h)) $$ Hs3 Hc
  iintro ⟨Hs3, Hc⟩
  sl_exec
  iapply (scan_landed d L 4 _ (words m d) (tile_body.sl.dma0_4 m d L) rfl _ k0_t6_loop k0_t6_ok (by decide +kernel) (k0_off7 L) (k0_off7_inb L) (off7_eq L)
    k0_chk5 k0_chk5.dec k0_idx5_inb (fun _ h => h)) $$ Hs4 Hc
  iintro ⟨Hs4, Hc⟩
  sl_exec
  iapply (scan_landed d L 5 _ (words m d) (tile_body.sl.dma0_5 m d L) rfl _ k0_t7_loop k0_t7_ok (by decide +kernel) (k0_off8 L) (k0_off8_inb L) (off8_eq L)
    k0_chk6 k0_chk6.dec k0_idx6_inb (fun _ h => h)) $$ Hs5 Hc
  iintro ⟨Hs5, Hc⟩
  sl_exec
  iapply (scan_landed d L 6 _ (words m d) (tile_body.sl.dma0_6 m d L) rfl _ k0_t8_loop k0_t8_ok (by decide +kernel) (k0_off9 L) (k0_off9_inb L) (off9_eq L)
    k0_chk7 k0_chk7.dec k0_idx7_inb (fun _ h => h)) $$ Hs6 Hc
  iintro ⟨Hs6, Hc⟩
  sl_exec
  iapply (scan_landed d L 7 _ (words m d) (tile_body.sl.dma0_7 m d L) rfl _ k0_t9_loop k0_t9_ok (by decide +kernel) (k0_off10 L) (k0_off10_inb L) (off10_eq L)
    k0_chk8 k0_chk8.dec k0_idx8_inb (fun _ h => h)) $$ Hs7 Hc
  iintro ⟨Hs7, Hc⟩
  ihave Hc := (Entails.of_eq (congrArg (rgPts (F := F) d L) (marks_seen (F := F) L (words m d)))) $$ Hc
  ihave Hs := (Entails.of_eq ((split_copy (F := F) d L (words m d)).trans (bigSep_eight _)).symm) $$ [Hs0 Hs1 Hs2 Hs3 Hs4 Hs5 Hs6 Hs7]
  · isplitl [Hs0]; · iexact Hs0
    isplitl [Hs1]; · iexact Hs1
    isplitl [Hs2]; · iexact Hs2
    isplitl [Hs3]; · iexact Hs3
    isplitl [Hs4]; · iexact Hs4
    isplitl [Hs5]; · iexact Hs5
    isplitl [Hs6]; · iexact Hs6
    iexact Hs7
  by_cases hw : (L 1).val < 15
  · have hk : k0_cond1 L = 1#1 := (cond_iff L).1.mpr hw
    have h2 : ¬ k0_cond2 L = 1#1 := fun h => by have := (cond_iff L).2.mp h; omega
    simp only [dif_pos hk, dif_neg h2, k0_part1_eq_skeleton, k0_part1_skel, Prog.pure_eq_ret, Prog.bind_ret, Prog.bind_assoc]
    ihave Ho := (Entails.of_eq (split_part (F := F) d L 15680 (fun r => k0_off11 L (BitVec.ofNat 32 (15680 * r.val))) (fun r => k0_off11_inb L hk r) (k0_off11_eq L) (mem_part_full L hw) (m (oLoc d)))) $$ Ho
    ihave Hc := (Entails.of_eq (split_range (F := F) d L 15680 ![0, 15680, 31360, 47040] src_inb_full src_eq_full _)) $$ Hc
    icases Ho with ⟨Ho0, Ho1, Ho2, Ho3⟩
    icases Hc with ⟨⟨Hc0, Hc1, Hc2, Hc3⟩, Hcr⟩
    sl_exec (disch := exact View.amount_pos _ _ (show 0 < S15680.numel by decide))
    have e0 : (sC.slice (srcR 15680 ![0, 15680, 31360, 47040] src_inb_full 0) (fun _ => rfl)).view.read (Elt F) (marks (zeroF (F := F)) oneF (baseW L) (words m d) (fun _ => True))
        = tile_body.sl.dma0_8 m d L := by
      delta tile_body.sl.dma0_8
      exact (ReadAs.apply_same _).symm
    ihave Ho0 := (Entails.of_eq (landed_out (F := F) d L 15680 ![0, 15680, 31360, 47040] src_inb_full (fun r => k0_off11 L (BitVec.ofNat 32 (15680 * r.val))) (fun r => k0_off11_inb L hk r) src_eq_full (k0_off11_eq L) 0 (words m d) (fun _ => True) (fun _ _ => trivial) _ (tile_body.sl.dma0_8 m d L) e0)) $$ Ho0
    have e1 : (sC.slice (srcR 15680 ![0, 15680, 31360, 47040] src_inb_full 1) (fun _ => rfl)).view.read (Elt F) (marks (zeroF (F := F)) oneF (baseW L) (words m d) (fun _ => True))
        = tile_body.sl.dma0_9 m d L := by
      delta tile_body.sl.dma0_9
      exact (ReadAs.apply_same _).symm
    ihave Ho1 := (Entails.of_eq (landed_out (F := F) d L 15680 ![0, 15680, 31360, 47040] src_inb_full (fun r => k0_off11 L (BitVec.ofNat 32 (15680 * r.val))) (fun r => k0_off11_inb L hk r) src_eq_full (k0_off11_eq L) 1 (words m d) (fun _ => True) (fun _ _ => trivial) _ (tile_body.sl.dma0_9 m d L) e1)) $$ Ho1
    have e2 : (sC.slice (srcR 15680 ![0, 15680, 31360, 47040] src_inb_full 2) (fun _ => rfl)).view.read (Elt F) (marks (zeroF (F := F)) oneF (baseW L) (words m d) (fun _ => True))
        = tile_body.sl.dma0_10 m d L := by
      delta tile_body.sl.dma0_10
      exact (ReadAs.apply_same _).symm
    ihave Ho2 := (Entails.of_eq (landed_out (F := F) d L 15680 ![0, 15680, 31360, 47040] src_inb_full (fun r => k0_off11 L (BitVec.ofNat 32 (15680 * r.val))) (fun r => k0_off11_inb L hk r) src_eq_full (k0_off11_eq L) 2 (words m d) (fun _ => True) (fun _ _ => trivial) _ (tile_body.sl.dma0_10 m d L) e2)) $$ Ho2
    have e3 : (sC.slice (srcR 15680 ![0, 15680, 31360, 47040] src_inb_full 3) (fun _ => rfl)).view.read (Elt F) (marks (zeroF (F := F)) oneF (baseW L) (words m d) (fun _ => True))
        = tile_body.sl.dma0_11 m d L := by
      delta tile_body.sl.dma0_11
      exact (ReadAs.apply_same _).symm
    ihave Ho3 := (Entails.of_eq (landed_out (F := F) d L 15680 ![0, 15680, 31360, 47040] src_inb_full (fun r => k0_off11 L (BitVec.ofNat 32 (15680 * r.val))) (fun r => k0_off11_inb L hk r) src_eq_full (k0_off11_eq L) 3 (words m d) (fun _ => True) (fun _ _ => trivial) _ (tile_body.sl.dma0_11 m d L) e3)) $$ Ho3
    ihave Ho := (Entails.of_eq (split_part (F := F) d L 15680 (fun r => k0_off11 L (BitVec.ofNat 32 (15680 * r.val))) (fun r => k0_off11_inb L hk r) (k0_off11_eq L) (mem_part_full L hw) (ones (words m d))).symm) $$ [Ho0 Ho1 Ho2 Ho3]
    · isplitl [Ho0]; · iexact Ho0
      isplitl [Ho1]; · iexact Ho1
      isplitl [Ho2]; · iexact Ho2
      iexact Ho3
    ihave Hc := (Entails.of_eq (split_range (F := F) d L 15680 ![0, 15680, 31360, 47040] src_inb_full src_eq_full _).symm) $$ [Hc0 Hc1 Hc2 Hc3 Hcr]
    · isplitr [Hcr]
      · isplitl [Hc0]; · iexact Hc0
        isplitl [Hc1]; · iexact Hc1
        isplitl [Hc2]; · iexact Hc2
        iexact Hc3
      · iexact Hcr
    rw [wp_ret]
    imodintro
    isplitl [Hi0 Hi1 Hi2 Hi3 Hi4 Hi5 Hi6 Hi7 Ho]
    · isplitr [Ho]
      · isplitl [Hi0]; · iexact Hi0
        isplitl [Hi1]; · iexact Hi1
        isplitl [Hi2]; · iexact Hi2
        isplitl [Hi3]; · iexact Hi3
        isplitl [Hi4]; · iexact Hi4
        isplitl [Hi5]; · iexact Hi5
        isplitl [Hi6]; · iexact Hi6
        iexact Hi7
      · iexact Ho
    isplitl [Hs Hc Hbrest]
    · isplitl [Hs]; · iexists _; iexact Hs
      isplitl [Hc]; · iexists _; iexact Hc
      iexact Hbrest
    isplitr [HO]
    · isplitr [Hsrest]
      · isplitl [Hm0]; · iexact Hm0
        isplitl [Hm1]; · iexact Hm1
        isplitl [Hm2]; · iexact Hm2
        isplitl [Hm3]; · iexact Hm3
        isplitl [Hm4]; · iexact Hm4
        isplitl [Hm5]; · iexact Hm5
        isplitl [Hm6]; · iexact Hm6
        isplitl [Hm7]; · iexact Hm7
        isplitl [Hm8]; · iexact Hm8
        isplitl [Hm9]; · iexact Hm9
        isplitl [Hm10]; · iexact Hm10
        isplitl [Hm11]; · iexact Hm11
        isplitl [Hm12]; · iexact Hm12
        isplitl [Hm13]; · iexact Hm13
        isplitl [Hm14]; · iexact Hm14
        iexact Hm15
      · iexact Hsrest
    · iexists _
      isplitr [HO]
      rotate_left
      · iexact HO
      · ipureintro
        repeat first
          | exact fun _ h => .inl h
          | refine waits_insert ?_
  · have hw : (L 1).val = 15 := by have : (L 1).val < 16 := (L 1).isLt; omega
    have hk : k0_cond2 L = 1#1 := (cond_iff L).2.mpr hw
    have h1 : ¬ k0_cond1 L = 1#1 := fun h => by have := (cond_iff L).1.mp h; omega
    simp only [dif_pos hk, dif_neg h1, k0_part2_eq_skeleton, k0_part2_skel, Prog.pure_eq_ret, Prog.bind_ret, Prog.bind_assoc]
    ihave Ho := (Entails.of_eq (split_part (F := F) d L 14800 (fun r => k0_off12 L (BitVec.ofNat 32 (14800 * r.val))) (fun r => k0_off12_inb L hk r) (k0_off12_eq L) (mem_part_last L hw) (m (oLoc d)))) $$ Ho
    ihave Hc := (Entails.of_eq (split_range (F := F) d L 14800 ![0, 14800, 29600, 44400] src_inb_last src_eq_last _)) $$ Hc
    icases Ho with ⟨Ho0, Ho1, Ho2, Ho3⟩
    icases Hc with ⟨⟨Hc0, Hc1, Hc2, Hc3⟩, Hcr⟩
    sl_exec (disch := exact View.amount_pos _ _ (show 0 < S14800.numel by decide))
    have e0 : (sC.slice (srcR 14800 ![0, 14800, 29600, 44400] src_inb_last 0) (fun _ => rfl)).view.read (Elt F) (marks (zeroF (F := F)) oneF (baseW L) (words m d) (fun _ => True))
        = tile_body.sl.dma0_12 m d L := by
      delta tile_body.sl.dma0_12
      exact (ReadAs.apply_same _).symm
    ihave Ho0 := (Entails.of_eq (landed_out (F := F) d L 14800 ![0, 14800, 29600, 44400] src_inb_last (fun r => k0_off12 L (BitVec.ofNat 32 (14800 * r.val))) (fun r => k0_off12_inb L hk r) src_eq_last (k0_off12_eq L) 0 (words m d) (fun _ => True) (fun _ _ => trivial) _ (tile_body.sl.dma0_12 m d L) e0)) $$ Ho0
    have e1 : (sC.slice (srcR 14800 ![0, 14800, 29600, 44400] src_inb_last 1) (fun _ => rfl)).view.read (Elt F) (marks (zeroF (F := F)) oneF (baseW L) (words m d) (fun _ => True))
        = tile_body.sl.dma0_13 m d L := by
      delta tile_body.sl.dma0_13
      exact (ReadAs.apply_same _).symm
    ihave Ho1 := (Entails.of_eq (landed_out (F := F) d L 14800 ![0, 14800, 29600, 44400] src_inb_last (fun r => k0_off12 L (BitVec.ofNat 32 (14800 * r.val))) (fun r => k0_off12_inb L hk r) src_eq_last (k0_off12_eq L) 1 (words m d) (fun _ => True) (fun _ _ => trivial) _ (tile_body.sl.dma0_13 m d L) e1)) $$ Ho1
    have e2 : (sC.slice (srcR 14800 ![0, 14800, 29600, 44400] src_inb_last 2) (fun _ => rfl)).view.read (Elt F) (marks (zeroF (F := F)) oneF (baseW L) (words m d) (fun _ => True))
        = tile_body.sl.dma0_14 m d L := by
      delta tile_body.sl.dma0_14
      exact (ReadAs.apply_same _).symm
    ihave Ho2 := (Entails.of_eq (landed_out (F := F) d L 14800 ![0, 14800, 29600, 44400] src_inb_last (fun r => k0_off12 L (BitVec.ofNat 32 (14800 * r.val))) (fun r => k0_off12_inb L hk r) src_eq_last (k0_off12_eq L) 2 (words m d) (fun _ => True) (fun _ _ => trivial) _ (tile_body.sl.dma0_14 m d L) e2)) $$ Ho2
    have e3 : (sC.slice (srcR 14800 ![0, 14800, 29600, 44400] src_inb_last 3) (fun _ => rfl)).view.read (Elt F) (marks (zeroF (F := F)) oneF (baseW L) (words m d) (fun _ => True))
        = tile_body.sl.dma0_15 m d L := by
      delta tile_body.sl.dma0_15
      exact (ReadAs.apply_same _).symm
    ihave Ho3 := (Entails.of_eq (landed_out (F := F) d L 14800 ![0, 14800, 29600, 44400] src_inb_last (fun r => k0_off12 L (BitVec.ofNat 32 (14800 * r.val))) (fun r => k0_off12_inb L hk r) src_eq_last (k0_off12_eq L) 3 (words m d) (fun _ => True) (fun _ _ => trivial) _ (tile_body.sl.dma0_15 m d L) e3)) $$ Ho3
    ihave Ho := (Entails.of_eq (split_part (F := F) d L 14800 (fun r => k0_off12 L (BitVec.ofNat 32 (14800 * r.val))) (fun r => k0_off12_inb L hk r) (k0_off12_eq L) (mem_part_last L hw) (ones (words m d))).symm) $$ [Ho0 Ho1 Ho2 Ho3]
    · isplitl [Ho0]; · iexact Ho0
      isplitl [Ho1]; · iexact Ho1
      isplitl [Ho2]; · iexact Ho2
      iexact Ho3
    ihave Hc := (Entails.of_eq (split_range (F := F) d L 14800 ![0, 14800, 29600, 44400] src_inb_last src_eq_last _).symm) $$ [Hc0 Hc1 Hc2 Hc3 Hcr]
    · isplitr [Hcr]
      · isplitl [Hc0]; · iexact Hc0
        isplitl [Hc1]; · iexact Hc1
        isplitl [Hc2]; · iexact Hc2
        iexact Hc3
      · iexact Hcr
    rw [wp_ret]
    imodintro
    isplitl [Hi0 Hi1 Hi2 Hi3 Hi4 Hi5 Hi6 Hi7 Ho]
    · isplitr [Ho]
      · isplitl [Hi0]; · iexact Hi0
        isplitl [Hi1]; · iexact Hi1
        isplitl [Hi2]; · iexact Hi2
        isplitl [Hi3]; · iexact Hi3
        isplitl [Hi4]; · iexact Hi4
        isplitl [Hi5]; · iexact Hi5
        isplitl [Hi6]; · iexact Hi6
        iexact Hi7
      · iexact Ho
    isplitl [Hs Hc Hbrest]
    · isplitl [Hs]; · iexists _; iexact Hs
      isplitl [Hc]; · iexists _; iexact Hc
      iexact Hbrest
    isplitr [HO]
    · isplitr [Hsrest]
      · isplitl [Hm0]; · iexact Hm0
        isplitl [Hm1]; · iexact Hm1
        isplitl [Hm2]; · iexact Hm2
        isplitl [Hm3]; · iexact Hm3
        isplitl [Hm4]; · iexact Hm4
        isplitl [Hm5]; · iexact Hm5
        isplitl [Hm6]; · iexact Hm6
        isplitl [Hm7]; · iexact Hm7
        isplitl [Hm8]; · iexact Hm8
        isplitl [Hm9]; · iexact Hm9
        isplitl [Hm10]; · iexact Hm10
        isplitl [Hm11]; · iexact Hm11
        isplitl [Hm12]; · iexact Hm12
        isplitl [Hm13]; · iexact Hm13
        isplitl [Hm14]; · iexact Hm14
        iexact Hm15
      · iexact Hsrest
    · iexists _
      isplitr [HO]
      rotate_left
      · iexact HO
      · ipureintro
        repeat first
          | exact fun _ h => .inl h
          | refine waits_insert ?_

end Cert.Proof.Ones
-- ==== Proof.Run.lean ====
/- The launch: what the sequencer hands each tile and takes back, the deal of the whole arrays over
   the sixteen tiles, and the program's run from any memory. -/
module

public import proofs.«01_k».proof.Proof.Tile

@[expose] public section

noncomputable section

namespace Cert.Proof.Ones

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (m : (ℓ : Loc nD τ sig) → Buf (Elt F) ℓ) (ρ : Dev nD → PrngReg)

/-! ## What the launch hands over -/

abbrev aLoc (d : Dev nD) : Loc nD τ sig := (SparseCore.T d).loc main_arg0
abbrev bLoc (d : Dev nD) : Loc nD τ sig := (SparseCore.T d).loc main_arg1

/-- The index words and the result whole, the result at `f`. -/
abbrev callPts (d : Dev nD) (f : Buf (Elt F) (oLoc d)) : sProp 𝕄 :=
  iprop((iLoc d ↦{fullShare} words m d) ∗ oLoc d ↦{fullShare} f)

/-- Tile `i`'s deal of them: its token of the index words, its part of the result at `f`. -/
abbrev tilePts (d : Dev nD) (f : Buf (Elt F) (oLoc d)) (i : Fin 16) : sProp 𝕄 :=
  iprop((iLoc d ↦{Transfers.shareTok fullShare 16 i} words m d) ∗ oLoc d ↦[part i.val]{fullShare} f)

/-- The call takes the two arrays and gives them back with the ones set; each tile likewise of its deal. -/
def P : (K (F := F)).Pay (nD := nD) (Val := Elt F) (Name := ℕ) (U := UU) where
  st := fun q d _ => match q with | 0 => callPts m d (m (oLoc d))
  dn := fun q d _ => match q with | 0 => callPts m d (ones (F := F) (words m d))
  go := fun q d _ i => match q with | 0 => tilePts m d (m (oLoc d)) (Fin.cast nSub_zero i)
  td := fun q d _ i => match q with | 0 => tilePts m d (ones (F := F) (words m d)) (Fin.cast nSub_zero i)
  x := fun _ _ => iprop(emp)

instance P_storable : (P m).IsStorable where
  st q d _ := match q with | 0 => (inferInstance : BI.Storable (upEmb : UEmb _ 𝕄) (callPts m d (m (oLoc d))))
  dn q d _ := match q with | 0 => (inferInstance : BI.Storable (upEmb : UEmb _ 𝕄) (callPts m d (ones (F := F) (words m d))))
  go q d _ i := match q with | 0 => (inferInstance : BI.Storable (upEmb : UEmb _ 𝕄) (tilePts m d (m (oLoc d)) (Fin.cast nSub_zero i)))
  td q d _ i := match q with | 0 => (inferInstance : BI.Storable (upEmb : UEmb _ 𝕄) (tilePts m d (ones (F := F) (words m d)) (Fin.cast nSub_zero i)))

/-! ## A tile's obligation -/

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0__scatter_ones (coordsV c s)
          iV (Memref.isWhole_whole _) oV (Memref.isWhole_whole _) sI (Memref.isWhole_whole _) sC (Memref.isWhole_whole _)
          cc0_scratch2 cc0_scratch3 cc0_scratch4 cc0_scratch5 cc0_scratch6 cc0_scratch7 cc0_scratch8 cc0_scratch9
          cc0_scratch10 cc0_scratch11 cc0_scratch12 cc0_scratch13 cc0_scratch14 cc0_scratch15 cc0_scratch16 cc0_scratch17) ⟨⟩ c s := rfl

omit [FloatOps F] in
/-- The waits a tile leaves, as the launch bounds them. -/
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

/-- Every tile, handed its deal, runs and leaves its part of the result with the ones set. -/
theorem tileObl (hF : (K (F := F)).Facts) : (K (F := F)).TileObl (D (F := F)) 𝒱 (P m) v₀ 0 := by
  intro d c i O W hO _ _
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (tile_body m d (coordsV ⟨_, hc.1⟩ ⟨_, hc.2⟩) hF (Transfers.shareTok fullShare 16 (Fin.cast nSub_zero i)) O W hO).trans
    (wp_mono frame _ _ fun _ => obl_post)

/-! ## The deal over the tiles -/

/-- Two tiles' parts of the result do not meet. -/
theorem parts_disjoint : ∀ i ∈ (Finset.univ : Finset (Fin 16)), ∀ j ∈ (Finset.univ : Finset (Fin 16)), i ≠ j → Disjoint (part i.val) (part j.val) := by
  intro i _ j _ h
  refine Finset.disjoint_left.mpr fun x hi hj => h (Fin.ext ?_)
  unfold part at hi hj
  obtain ⟨-, h1, h2⟩ := Finset.mem_filter.mp hi
  obtain ⟨-, h3, h4⟩ := Finset.mem_filter.mp hj
  omega

/-- The sixteen parts are the whole result. -/
theorem parts_cover : ((Finset.univ : Finset (Fin 16)).biUnion fun i => part i.val) = Finset.univ := by
  refine Finset.eq_univ_iff_forall.mpr fun x => Finset.mem_biUnion.mpr ?_
  have hx : (x 0).val < 1000000 := (x 0).isLt
  refine ⟨⟨(x 0).val / 62720, by omega⟩, Finset.mem_univ _, Finset.mem_filter.mpr ⟨Finset.mem_univ _, ?_, ?_⟩⟩ <;> dsimp only <;> omega

omit [FloatOps F] in
/-- The result whole is its sixteen parts. -/
theorem result_parts (d : Dev nD) (f : Buf (Elt F) (oLoc d)) :
    (oLoc d ↦{fullShare} f : sProp 𝕄) = bigSep Finset.univ fun i : Fin 16 => oLoc d ↦[part i.val]{fullShare} f := by
  have h : (_ : sProp 𝕄) = _ := pointsTo_biUnion (ℓ := oLoc d) (q := fullShare) (f := f) Finset.univ (fun i : Fin 16 => part i.val) parts_disjoint
  rw [← h, parts_cover]

omit [FloatOps F] in
theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

/-- The two arrays are dealt to the tiles, and what the tiles give back is the two arrays again. -/
theorem vecSplit : (K (F := F)).VecSplit' (P m) 0 := by
  intro d c
  show callPts m d (m (oLoc d)) ⊢ |={Set.univ}=> iprop(
      (bigSep Finset.univ fun i : Fin ((K (F := F)).nSub 0) => tilePts m d (m (oLoc d)) (Fin.cast nSub_zero i))
      ∗ ((bigSep Finset.univ fun i : Fin ((K (F := F)).nSub 0) => tilePts m d (ones (F := F) (words m d)) (Fin.cast nSub_zero i))
          -∗ callPts m d (ones (F := F) (words m d))))
  rw [bigSep_tasks (F := F) (tilePts m d (m (oLoc d))), bigSep_tasks (F := F) (tilePts m d (ones (F := F) (words m d)))]
  unfold tilePts callPts
  rw [bigSep_sep', bigSep_sep', result_parts, result_parts]
  iintro ⟨Hi, Ho⟩
  ihave Hs := (Transfers.pointsTo_toks_split (S := Finset.univ) fullShare 16) $$ Hi
  icases Hs with ⟨Hr, Hi⟩
  imodintro
  isplitl [Hi Ho]
  · isplitl [Hi] <;> iassumption
  iintro ⟨Hi, Ho⟩
  isplitr [Ho]
  · iapply (Transfers.pointsTo_toks_join (S := Finset.univ) fullShare 16)
    isplitl [Hr] <;> iassumption
  iexact Ho

/-! ## The launch element of the ghost state -/

def u₀ : UU := (initOf (K (F := F)).hsCells (K (F := F)).hsToks, 1)

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair _ _) $$ Hu
  icases H with ⟨HH, -⟩
  imodintro
  isplitl [HH]; · iexact HH
  isplitr; · rw [bigSep_emp']; iempintro
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

/-! ## @main on the TensorCore -/

omit [FloatOps F] in
theorem unscopedBufs_eq (d : Dev nD) (W : (b : Ref sig .tc) → Buf (Elt F) ((d.tc : Thread nD τ).loc b)) :
    (unscopedBufs d W : sProp 𝕄)
      = iprop((aLoc d ↦{fullShare} W main_arg0) ∗ (bLoc d ↦{fullShare} W main_arg1) ∗ (iLoc d ↦{fullShare} W main_arg2) ∗ oLoc d ↦{fullShare} W main_v0) := by
  unfold unscopedBufs
  rw [show (Finset.univ.filter fun b : Ref sig .tc => ¬ b.isScoped) = {main_arg0, main_arg1, main_arg2, main_v0} by decide,
    SparseCore.bigSep_insert' (by decide), SparseCore.bigSep_insert' (by decide), SparseCore.bigSep_insert' (by decide), bigSep_singleton]

theorem st0_eq (d : Dev nD) : (bigSep Finset.univ fun c : Fin ((K (F := F)).nCore 0) => (P m).st 0 d c) = callPts m d (m (oLoc d)) :=
  bigSep_univ_of_subsingleton (0 : Fin 1)
theorem dn0_eq (d : Dev nD) : (bigSep Finset.univ fun c : Fin ((K (F := F)).nCore 0) => (P m).dn 0 d c) = callPts m d (ones (F := F) (words m d)) :=
  bigSep_univ_of_subsingleton (0 : Fin 1)

/-- What the TensorCore keeps to the end: the three arguments as they were, the result with the ones set. -/
abbrev FIN (d : Dev nD) : sProp 𝕄 :=
  iprop((aLoc d ↦{fullShare} m (aLoc d)) ∗ (bLoc d ↦{fullShare} m (bLoc d)) ∗ (iLoc d ↦{fullShare} words m d)
    ∗ oLoc d ↦{fullShare} ones (F := F) (words m d))

/-- The TensorCore's program: the one call. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscopedBufs_eq]
  simp only [main, wp_bind, wp_pure]
  iintro ⟨#Hctx, Hst, ⟨Hb, ⟨Ha, Hc, Hi, Ho⟩, Hts, -⟩, -⟩
  iapply ((K (F := F)).wp_run (D (F := F)) 𝒱 (EH := EH) (P := P m) κ d 0) $$ [Hst Ha Hc Hi Ho Hb Hts]
  isplitr; · iexact Hctx
  isplitl [Hst]; · iexact Hst
  isplitl [Hi Ho]
  · rw [st0_eq]
    isplitl [Hi]; · iexact Hi
    iexact Ho
  iintro ⟨Hst, Hdn⟩
  ihave Hdn' := (Entails.of_eq (dn0_eq m d)) $$ Hdn
  icases Hdn' with ⟨Hi, Ho⟩
  imodintro
  isplitl [Hst]; · iexact Hst
  isplitr [Hb Hts]
  · isplitl [Ha]; · iexact Ha
    isplitl [Hc]; · iexact Hc
    isplitl [Hi]; · iexact Hi
    iexact Ho
  isplitl [Hb] <;> iassumption

/-- What a memory ends with on device `d`. -/
def fq (d : Dev nD) (s : (ℓ : Loc nD τ sig) → Buf (Elt F) ℓ) : Prop :=
  s (aLoc d) = m (aLoc d) ∧ s (bLoc d) = m (bLoc d) ∧ s (iLoc d) = m (iLoc d) ∧ s (oLoc d) = ones (F := F) (words m d)

theorem hfin (d : Dev nD) (s' : Phys nD τ sig (Elt F)) : iprop(FIN m d ∗ SI s') ⊢ (⌜fq m d s'.mem.mem⌝ : sProp 𝕄) := by
  iintro ⟨⟨Ha, Hc, Hi, Ho⟩, HSI⟩
  ihave H := (persistent_entails_right (SI_pointsTo_agree (st := s') (ℓ := aLoc d) (I := Finset.univ) (q := fullShare) (f := m (aLoc d)))) $$ [HSI Ha]
  · isplitl [HSI] <;> iassumption
  icases H with ⟨%h1, HSI, -⟩
  ihave H := (persistent_entails_right (SI_pointsTo_agree (st := s') (ℓ := bLoc d) (I := Finset.univ) (q := fullShare) (f := m (bLoc d)))) $$ [HSI Hc]
  · isplitl [HSI] <;> iassumption
  icases H with ⟨%h2, HSI, -⟩
  ihave H := (persistent_entails_right (SI_pointsTo_agree (st := s') (ℓ := iLoc d) (I := Finset.univ) (q := fullShare) (f := m (iLoc d)))) $$ [HSI Hi]
  · isplitl [HSI] <;> iassumption
  icases H with ⟨%h3, HSI, -⟩
  ihave H := (SI_pointsTo_agree (st := s') (ℓ := oLoc d) (I := Finset.univ) (q := fullShare) (f := ones (F := F) (words m d))) $$ [HSI Ho]
  · isplitl [HSI] <;> iassumption
  icases H with %h4
  ipureintro
  exact ⟨funext fun i => h1 i (Finset.mem_univ i), funext fun i => h2 i (Finset.mem_univ i), funext fun i => h3 i (Finset.mem_univ i),
    funext fun i => h4 i (Finset.mem_univ i)⟩

/-! ## The program's run -/

/-- What the program's runs end with: the arguments unchanged, the result with the ones set, every semaphore at zero. -/
def QC : PUnit × MemSt nD τ sig (Elt F) → Prop := fun r => (∀ c : Dev nD, fq m c r.2.mem) ∧ r.2.sem = fun _ => 0

/-- Every run of the program, from any memory with the semaphores at zero, terminates so. -/
theorem run_main [∀ e, Nonempty (Elt F e)] :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m facts)
    (fun q _ => match q with | 0 => SparseCore.Cfg.VecSplit.of_plain (vecSplit m))
    m ρ main (fun _ => iprop(emp)) (FIN m) (u₀ (F := F)) (sep_elim_left.trans (hu₀ m)) (hmain m ρ) (fun d s' => fq m d s'.mem.mem) (hfin m) (QC m)
    (fun _ h hz => ⟨h, hz⟩)

end Cert.Proof.Ones

end
-- ==== Proof.Reference.lean ====
/- The reference's value: a scatter of ones into zeros, its index words unwrapped when none is
   negative, is the array the kernel leaves. -/
module

public import proofs.«01_k».proof.Defs
public import proofs.«01_k».proof.Proof.Tile
public import proofs.«01_k».proof.Proof.Gen.ReferenceIdeal.Run
public import proofs.«01_k».proof.Proof.Gen.Pre_nonnegative
public import Idealize.ShloMosaic.Lib.ReduceAll
public import Idealize.ShloMosaic.Lib.WordCmp
public import Idealize.ShloMosaic.Lib.Routing.OpsSet
public import Idealize.ShloMosaic.Lib.Routing.OpsPair

@[expose] public section

noncomputable section

namespace Cert.Proof.Ones

open Idealize.ShloMosaic Idealize.ShloMosaic.Routing
open Cert.ReferenceIdeal

variable {F : FTy → Type} [FloatOps F]

/-- The reference's scatter: one scalar per index word, into a vector. -/
abbrev sdims : ScatterDims S1000000 S65536x1 S65536 :=
  @scatter_S1000000_S65536x1_S65536_n_0_0_1 Cert.ReferenceIdeal.Gen.facts.toFacts₀

/-- Where update `k`'s index word lies in the column of them. -/
def col (k : S65536.Idx) : S65536x1.Idx
  | ⟨0, _⟩ => k 0
  | ⟨1, _⟩ => (0 : Fin 1)

/-- Update `k` lands at `x` exactly when its index word, read signed, is `x`. -/
theorem lands (w : IVec S65536x1 32) (k : S65536.Idx) (x : S1000000.Idx) :
    sdims.resultIdx? k w = some x ↔ (w (col k)).toInt = ((x 0).val : Int) := by
  have hwin : sdims.window k 0 = 0 := by
    unfold ScatterDims.window
    rw [dif_neg fun h => (of_decide_eq_true (List.mem_filter.1 h).2) (List.mem_singleton.2 rfl)]
  have hstart : sdims.start k w 0 = (w (col k)).toInt := by
    unfold ScatterDims.start
    have hm : (0 : Fin S1000000.rank) ∈ sdims.scatterDimsToOperandDims := List.mem_singleton.2 rfl
    rw [dif_pos hm]
    refine congrArg (fun i => (w i).toInt) (funext fun b => Fin.ext ?_)
    match b with
    | ⟨0, _⟩ => rfl
    | ⟨1, _⟩ => rfl
  rw [resultIdx?_eq_some]
  constructor
  · intro h
    have h0 := h 0
    rw [hstart, hwin] at h0
    simpa using h0
  · intro h a
    obtain rfl : a = 0 := Subsingleton.elim _ _
    rw [hstart, hwin, h]
    simp

/-- The reference's index words as its scatter reads them: a negative word wrapped once. -/
abbrev wrapped (g : IVec S65536 32) (h : S_.BroadcastsInDim S65536 (![] : Fin 0 → Fin S65536.rank))
    (h' : S65536.BroadcastsInDim S65536x1 (![0] : Fin 1 → Fin S65536x1.rank)) : IVec S65536x1 32 :=
  broadcastInDim S65536x1 ![0] h' (select (cmpi .slt g (broadcastInDim S65536 ![] h (constantI S_ 32 0#32)))
    (addi g (broadcastInDim S65536 ![] h (constantI S_ 32 1000000#32))) g)

/-- A word that is not negative is read as it is. -/
theorem wrapped_at (g : IVec S65536 32) (h : S_.BroadcastsInDim S65536 (![] : Fin 0 → Fin S65536.rank))
    (h' : S65536.BroadcastsInDim S65536x1 (![0] : Fin 1 → Fin S65536x1.rank)) (k : S65536.Idx) (hk : 0 ≤ (g k).toInt) :
    wrapped g h h' (col k) = g k := by
  have hr : ∀ f : S65536.Idx → BitVec 32, broadcastInDim S65536x1 ![0] h' f (col k) = f k := fun f =>
    congrArg f (funext fun a => by obtain rfl : a = 0 := Subsingleton.elim _ _; exact Fin.ext rfl)
  have e : wrapped g h h' (col k) = (if IntOp.cmpi .slt (g k) 0#32 = 1#1 then g k + 1000000#32 else g k) := hr _
  rw [e, if_neg]
  change BitVec.ofBool (decide ((g k).toInt < (0#32 : BitVec 32).toInt)) ≠ 1#1
  rw [decide_eq_false (show ¬ (g k).toInt < (0#32 : BitVec 32).toInt from not_lt.2 hk)]
  decide

/-- The reference's scatter is the array the kernel leaves. -/
theorem scatter_ones (g : IVec S65536 32) (hg : ∀ k, 0 ≤ (g k).toInt) (h : S_.BroadcastsInDim S65536 (![] : Fin 0 → Fin S65536.rank))
    (h' : S65536.BroadcastsInDim S65536x1 (![0] : Fin 1 → Fin S65536x1.rank)) (h0 : S_.BroadcastsInDim S1000000 (![] : Fin 0 → Fin S1000000.rank)) :
    Host.scatter sdims (fun _ b => b) (broadcastInDim S1000000 ![] h0 (constant (F := F) S_ .f32 0x00000000#32)) (wrapped g h h')
      (broadcastInDim S65536 ![] h (constant S_ .f32 0x3F800000#32)) = ones (F := F) g := by
  have hl : ∀ k x, sdims.resultIdx? k (wrapped g h h') = some x ↔ (g k).toNat = (x 0).val := by
    intro k x
    rw [lands, wrapped_at g h h' k (hg k)]
    have hk := hg k
    rw [BitVec.toInt_eq_toNat_cond] at hk ⊢
    have := (g k).isLt
    split at hk <;> simp_all <;> omega
  funext x
  unfold ones
  split
  · next hx =>
    obtain ⟨k, hk⟩ := hx
    exact scatter_set_hit sdims _ _ _ x _ (fun _ _ => rfl) k ((hl k x).2 hk)
  · next hx =>
    exact scatter_set_miss sdims _ _ _ x fun k hk => hx ⟨k, (hl k x).1 hk⟩

/-- The precondition gives that no index word is negative. -/
theorem nonneg_of_pre (a : FVec F S1000000 .f32) (b : FVec F S1 .f32) (g : IVec S65536 32)
    (h : Cert.Pre_nonnegative.fn (F := F) a b g = fun _ => 1#1) (k : S65536.Idx) : 0 ≤ (g k).toInt := by
  have e := congrFun h fun a => a.elim0
  haveI : Subsingleton Cert.Pre_nonnegative.S_.Idx := ⟨fun _ _ => funext fun a => a.elim0⟩
  have e' := Host.reduce_andi_all _ _ _ _ _ e k
  exact IntOp.cmpi_sge.1 e'

end Cert.Proof.Ones

end
-- ==== Proof.lean ====
/- The claims: the frames of the kernel as compiled, of its idealization and of the reference, and
   that the idealization and the reference leave the same result when no index word is negative. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.Pre_nonnegative
public import proofs.«01_k».proof.Proof.Run
public import proofs.«01_k».proof.Proof.Reference

@[expose] public section

noncomputable section

namespace Cert.Proof

open Idealize.ShloMosaic Idealize.SL.Sem Cert.Proof.Ones

/-- The kernel as compiled runs, leaves its arguments as they were and every semaphore at zero. -/
theorem frame_kernel : Cert.quiescent_Kernel := fun m ρ _ =>
  (θ_run Cert.KernelIdeal.defs _ _).mono (fun _ h => ⟨fun c => ⟨(h.1 c).1, (h.1 c).2.1, (h.1 c).2.2.1⟩, h.2⟩) (run_main (F := Bits) m ρ)

/-- So does its idealization, from any memory, -/
theorem frame_ideal : Cert.quiescent_KernelIdeal := fun m ρ _ =>
  (θ_run Cert.KernelIdeal.defs _ _).mono (fun _ h => ⟨fun c => ⟨(h.1 c).1, (h.1 c).2.1, (h.1 c).2.2.1⟩, h.2⟩) (run_main (F := Ideal) m ρ)

/-- and the reference, which uses no semaphore. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The idealization and the reference both leave one at every position some index word names and
    zero elsewhere. -/
theorem same_value : Cert.algebraic_KernelIdeal_ReferenceIdeal_pre_nonnegative := fun m ρ m' ρ' hpre hm =>
  ⟨fun c => ones (F := Ideal) (words m c),
    (θ_run Cert.KernelIdeal.defs _ _).mono (fun _ h c => ⟨(h.1 c).2.2.2, (h.1 c).1, (h.1 c).2.1, (h.1 c).2.2.1⟩) (run_main (F := Ideal) m ρ),
    (θ_run Cert.ReferenceIdeal.defs _ _).mono (fun _ h c => ⟨(h c).1.trans (by
        rw [(hm c).2.2]
        exact scatter_ones (F := Ideal) _ (nonneg_of_pre _ _ _ (hpre c)) _ _ _), (h c).2.1, (h c).2.2.1, (h c).2.2.2⟩)
      (Cert.ReferenceIdeal.Value.run (F := Ideal) m' ρ')⟩

theorem claim : Cert.Claim := ⟨Cert.Kernel.Gen.facts, Cert.KernelIdeal.Gen.facts, Cert.ReferenceIdeal.Gen.facts, Cert.Pre_nonnegative.Gen.facts,
  frame_kernel, frame_ideal, fun m ρ _ => frame_ideal m ρ trivial, frame_reference, fun m ρ _ => frame_reference m ρ trivial, trivial, same_value⟩

end Cert.Proof

end
